-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S4x2049x6 : Shape := ⟨3, ![4, 2049, 6]⟩
abbrev S4x2049 : Shape := ⟨2, ![4, 2049]⟩
abbrev S6x768 : Shape := ⟨2, ![6, 768]⟩
abbrev S257x768 : Shape := ⟨2, ![257, 768]⟩
abbrev S129x768 : Shape := ⟨2, ![129, 768]⟩
abbrev S65x768 : Shape := ⟨2, ![65, 768]⟩
abbrev S768x6 : Shape := ⟨2, ![768, 6]⟩
abbrev S768x257 : Shape := ⟨2, ![768, 257]⟩
abbrev S768x129 : Shape := ⟨2, ![768, 129]⟩
abbrev S768x65 : Shape := ⟨2, ![768, 65]⟩
abbrev S768x768 : Shape := ⟨2, ![768, 768]⟩
abbrev S768 : Shape := ⟨1, ![768]⟩
abbrev S4x2048x6 : Shape := ⟨3, ![4, 2048, 6]⟩
abbrev S_ : Shape := ⟨0, ![]⟩
abbrev S4x2048x1 : Shape := ⟨3, ![4, 2048, 1]⟩
abbrev S4x2048 : Shape := ⟨2, ![4, 2048]⟩

class Facts : Prop where
  slices_S4x2049x6_S4x2048x6_0_0_0 : S4x2049x6.Slices ![0, 0, 0] S4x2048x6
  bcast_S_S4x2048x6 : S_.BroadcastsInDim S4x2048x6 (![] : Fin 0 → Fin S4x2048x6.rank)
  reducesTo_S4x2048x6_S_d0_1_2 : S4x2048x6.ReducesTo [0, 1, 2] S_
  h_S_ : 0 < S_.numel
  slices_S4x2049x6_S4x2048x1_0_1_0 : S4x2049x6.Slices ![0, 1, 0] S4x2048x1
  shapeCasts_S4x2048x1_S4x2048 : S4x2048x1.ShapeCasts S4x2048
  bcast_S_S4x2048 : S_.BroadcastsInDim S4x2048 (![] : Fin 0 → Fin S4x2048.rank)
  reducesTo_S4x2048_S_d0_1 : S4x2048.ReducesTo [0, 1] S_
  slices_S4x2049x6_S4x2048x1_0_1_1 : S4x2049x6.Slices ![0, 1, 1] S4x2048x1
  slices_S4x2049x6_S4x2048x1_0_1_2 : S4x2049x6.Slices ![0, 1, 2] S4x2048x1
  slices_S4x2049x6_S4x2048x1_0_1_3 : S4x2049x6.Slices ![0, 1, 3] S4x2048x1
  slices_S4x2049x6_S4x2048x1_0_1_4 : S4x2049x6.Slices ![0, 1, 4] S4x2048x1
  slices_S4x2049x6_S4x2048x1_0_1_5 : S4x2049x6.Slices ![0, 1, 5] S4x2048x1
  bcast_S_S6x768 : S_.BroadcastsInDim S6x768 (![] : Fin 0 → Fin S6x768.rank)
  reducesTo_S6x768_S_d0_1 : S6x768.ReducesTo [0, 1] S_
  slices_S257x768_S6x768_0_0 : S257x768.Slices ![0, 0] S6x768
  slices_S129x768_S6x768_0_0 : S129x768.Slices ![0, 0] S6x768
  slices_S65x768_S6x768_0_0 : S65x768.Slices ![0, 0] S6x768
  bcast_S_S768x6 : S_.BroadcastsInDim S768x6 (![] : Fin 0 → Fin S768x6.rank)
  reducesTo_S768x6_S_d0_1 : S768x6.ReducesTo [0, 1] S_
  bcast_S_S768x257 : S_.BroadcastsInDim S768x257 (![] : Fin 0 → Fin S768x257.rank)
  reducesTo_S768x257_S_d0_1 : S768x257.ReducesTo [0, 1] S_
  bcast_S_S768x129 : S_.BroadcastsInDim S768x129 (![] : Fin 0 → Fin S768x129.rank)
  reducesTo_S768x129_S_d0_1 : S768x129.ReducesTo [0, 1] S_
  bcast_S_S768x65 : S_.BroadcastsInDim S768x65 (![] : Fin 0 → Fin S768x65.rank)
  reducesTo_S768x65_S_d0_1 : S768x65.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part7 {F : FTy → Type} [FloatOps F] (main_arg14 : FVec F S768x768 .f32) (main_arg15 : FVec F S768 .f32) (main_v120 : IVec S_ 1) (main_v123 : IVec S768x65 1) : IVec S_ 1 :=
  let main_c_42 : IVec S_ 1 := constantI S_ 1 1#1
  let main_v124 : IVec S_ 1 := (fun x v => Host.reduce IntOp.andi x v reducesTo_S768x65_S_d0_1 h_S_) main_v123 main_c_42
  let main_v125 : IVec S_ 1 := andi main_v120 main_v124
  let main_v126 : FVec F S768x768 .f32 := Host.absf main_arg14
  let main_cst_43 : FVec F S_ .f32 := constant S_ .f32 0x7F800000#32
  let main_v127 : FVec F S768x768 .f32 := broadcastInDim S768x768 ![] bcast_S_S768x768 main_cst_43
  let main_v128 : IVec S768x768 1 := cmpf .olt main_v126 main_v127
  let main_c_44 : IVec S_ 1 := constantI S_ 1 1#1
  let main_v129 : IVec S_ 1 := (fun x v => Host.reduce IntOp.andi x v reducesTo_S768x768_S_d0_1 h_S_) main_v128 main_c_44
  let main_v130 : IVec S_ 1 := andi main_v125 main_v129
  let main_v131 : FVec F S768 .f32 := Host.absf main_arg15
  let main_cst_45 : FVec F S_ .f32 := constant S_ .f32 0x7F800000#32
  let main_v132 : FVec F S768 .f32 := broadcastInDim S768 ![] bcast_S_S768 main_cst_45
  let main_v133 : IVec S768 1 := cmpf .olt main_v131 main_v132
  let main_c_46 : IVec S_ 1 := constantI S_ 1 1#1
  let main_v134 : IVec S_ 1 := (fun x v => Host.reduce IntOp.andi x v reducesTo_S768_S_d0 h_S_) main_v133 main_c_46
  let main_v135 : IVec S_ 1 := andi main_v130 main_v134
  main_v135

def fn_part6 {F : FTy → Type} [FloatOps F] (main_arg11 : FVec F S768x129 .f32) (main_arg12 : FVec F S768x257 .f32) (main_arg13 : FVec F S768x65 .f32) (main_arg14 : FVec F S768x768 .f32) (main_arg15 : FVec F S768 .f32) (main_v105 : IVec S_ 1) (main_v106 : FVec F S768x129 .f32) : IVec S_ 1 :=
  let main_cst_35 : FVec F S_ .f32 := constant S_ .f32 0x7F800000#32
  let main_v107 : FVec F S768x129 .f32 := broadcastInDim S768x129 ![] bcast_S_S768x129 main_cst_35
  let main_v108 : IVec S768x129 1 := cmpf .olt main_v106 main_v107
  let main_c_36 : IVec S_ 1 := constantI S_ 1 1#1
  let main_v109 : IVec S_ 1 := (fun x v => Host.reduce IntOp.andi x v reducesTo_S768x129_S_d0_1 h_S_) main_v108 main_c_36
  let main_v110 : IVec S_ 1 := andi main_v105 main_v109
  let main_v111 : FVec F S768x129 .f32 := Host.absf main_arg11
  let main_cst_37 : FVec F S_ .f32 := constant S_ .f32 0x7F800000#32
  let main_v112 : FVec F S768x129 .f32 := broadcastInDim S768x129 ![] bcast_S_S768x129 main_cst_37
  let main_v113 : IVec S768x129 1 := cmpf .olt main_v111 main_v112
  let main_c_38 : IVec S_ 1 := constantI S_ 1 1#1
  let main_v114 : IVec S_ 1 := (fun x v => Host.reduce IntOp.andi x v reducesTo_S768x129_S_d0_1 h_S_) main_v113 main_c_38
  let main_v115 : IVec S_ 1 := andi main_v110 main_v114
  let main_v116 : FVec F S768x257 .f32 := Host.absf main_arg12
  let main_cst_39 : FVec F S_ .f32 := constant S_ .f32 0x7F800000#32
  let main_v117 : FVec F S768x257 .f32 := broadcastInDim S768x257 ![] bcast_S_S768x257 main_cst_39
  let main_v118 : IVec S768x257 1 := cmpf .olt main_v116 main_v117
  let main_c_40 : IVec S_ 1 := constantI S_ 1 1#1
  let main_v119 : IVec S_ 1 := (fun x v => Host.reduce IntOp.andi x v reducesTo_S768x257_S_d0_1 h_S_) main_v118 main_c_40
  let main_v120 : IVec S_ 1 := andi main_v115 main_v119
  let main_v121 : FVec F S768x65 .f32 := Host.absf main_arg13
  let main_cst_41 : FVec F S_ .f32 := constant S_ .f32 0x7F800000#32
  let main_v122 : FVec F S768x65 .f32 := broadcastInDim S768x65 ![] bcast_S_S768x65 main_cst_41
  let main_v123 : IVec S768x65 1 := cmpf .olt main_v121 main_v122
  fn_part7 (F := F) main_arg14 main_arg15 main_v120 main_v123

def fn_part5 {F : FTy → Type} [FloatOps F] (main_arg7 : FVec F S65x768 .f32) (main_arg8 : FVec F S768x6 .f32) (main_arg9 : FVec F S768x257 .f32) (main_arg10 : FVec F S768x129 .f32) (main_arg11 : FVec F S768x129 .f32) (main_arg12 : FVec F S768x257 .f32) (main_arg13 : FVec F S768x65 .f32) (main_arg14 : FVec F S768x768 .f32) (main_arg15 : FVec F S768 .f32) (main_v83 : IVec S_ 1) (main_v88 : IVec S_ 1) : IVec S_ 1 :=
  let main_v89 : IVec S_ 1 := andi main_v83 main_v88
  let main_v90 : FVec F S6x768 .f32 := (extractStridedSlice S6x768 ![0, 0] · slices_S65x768_S6x768_0_0) main_arg7
  let main_v91 : FVec F S6x768 .f32 := Host.absf main_v90
  let main_cst_29 : FVec F S_ .f32 := constant S_ .f32 0x7F800000#32
  let main_v92 : FVec F S6x768 .f32 := broadcastInDim S6x768 ![] bcast_S_S6x768 main_cst_29
  let main_v93 : IVec S6x768 1 := cmpf .olt main_v91 main_v92
  let main_c_30 : IVec S_ 1 := constantI S_ 1 1#1
  let main_v94 : IVec S_ 1 := (fun x v => Host.reduce IntOp.andi x v reducesTo_S6x768_S_d0_1 h_S_) main_v93 main_c_30
  let main_v95 : IVec S_ 1 := andi main_v89 main_v94
  let main_v96 : FVec F S768x6 .f32 := Host.absf main_arg8
  let main_cst_31 : FVec F S_ .f32 := constant S_ .f32 0x7F800000#32
  let main_v97 : FVec F S768x6 .f32 := broadcastInDim S768x6 ![] bcast_S_S768x6 main_cst_31
  let main_v98 : IVec S768x6 1 := cmpf .olt main_v96 main_v97
  let main_c_32 : IVec S_ 1 := constantI S_ 1 1#1
  let main_v99 : IVec S_ 1 := (fun x v => Host.reduce IntOp.andi x v reducesTo_S768x6_S_d0_1 h_S_) main_v98 main_c_32
  let main_v100 : IVec S_ 1 := andi main_v95 main_v99
  let main_v101 : FVec F S768x257 .f32 := Host.absf main_arg9
  let main_cst_33 : FVec F S_ .f32 := constant S_ .f32 0x7F800000#32
  let main_v102 : FVec F S768x257 .f32 := broadcastInDim S768x257 ![] bcast_S_S768x257 main_cst_33
  let main_v103 : IVec S768x257 1 := cmpf .olt main_v101 main_v102
  let main_c_34 : IVec S_ 1 := constantI S_ 1 1#1
  let main_v104 : IVec S_ 1 := (fun x v => Host.reduce IntOp.andi x v reducesTo_S768x257_S_d0_1 h_S_) main_v103 main_c_34
  let main_v105 : IVec S_ 1 := andi main_v100 main_v104
  let main_v106 : FVec F S768x129 .f32 := Host.absf main_arg10
  fn_part6 (F := F) main_arg11 main_arg12 main_arg13 main_arg14 main_arg15 main_v105 main_v106

def fn_part4 {F : FTy → Type} [FloatOps F] (main_arg4 : FVec F S129x768 .f32) (main_arg5 : FVec F S129x768 .f32) (main_arg6 : FVec F S257x768 .f32) (main_arg7 : FVec F S65x768 .f32) (main_arg8 : FVec F S768x6 .f32) (main_arg9 : FVec F S768x257 .f32) (main_arg10 : FVec F S768x129 .f32) (main_arg11 : FVec F S768x129 .f32) (main_arg12 : FVec F S768x257 .f32) (main_arg13 : FVec F S768x65 .f32) (main_arg14 : FVec F S768x768 .f32) (main_arg15 : FVec F S768 .f32) (main_v65 : IVec S_ 1) (main_v70 : IVec S_ 1) : IVec S_ 1 :=
  let main_v71 : IVec S_ 1 := andi main_v65 main_v70
  let main_v72 : FVec F S6x768 .f32 := (extractStridedSlice S6x768 ![0, 0] · slices_S129x768_S6x768_0_0) main_arg4
  let main_v73 : FVec F S6x768 .f32 := Host.absf main_v72
  let main_cst_23 : FVec F S_ .f32 := constant S_ .f32 0x7F800000#32
  let main_v74 : FVec F S6x768 .f32 := broadcastInDim S6x768 ![] bcast_S_S6x768 main_cst_23
  let main_v75 : IVec S6x768 1 := cmpf .olt main_v73 main_v74
  let main_c_24 : IVec S_ 1 := constantI S_ 1 1#1
  let main_v76 : IVec S_ 1 := (fun x v => Host.reduce IntOp.andi x v reducesTo_S6x768_S_d0_1 h_S_) main_v75 main_c_24
  let main_v77 : IVec S_ 1 := andi main_v71 main_v76
  let main_v78 : FVec F S6x768 .f32 := (extractStridedSlice S6x768 ![0, 0] · slices_S129x768_S6x768_0_0) main_arg5
  let main_v79 : FVec F S6x768 .f32 := Host.absf main_v78
  let main_cst_25 : FVec F S_ .f32 := constant S_ .f32 0x7F800000#32
  let main_v80 : FVec F S6x768 .f32 := broadcastInDim S6x768 ![] bcast_S_S6x768 main_cst_25
  let main_v81 : IVec S6x768 1 := cmpf .olt main_v79 main_v80
  let main_c_26 : IVec S_ 1 := constantI S_ 1 1#1
  let main_v82 : IVec S_ 1 := (fun x v => Host.reduce IntOp.andi x v reducesTo_S6x768_S_d0_1 h_S_) main_v81 main_c_26
  let main_v83 : IVec S_ 1 := andi main_v77 main_v82
  let main_v84 : FVec F S6x768 .f32 := (extractStridedSlice S6x768 ![0, 0] · slices_S257x768_S6x768_0_0) main_arg6
  let main_v85 : FVec F S6x768 .f32 := Host.absf main_v84
  let main_cst_27 : FVec F S_ .f32 := constant S_ .f32 0x7F800000#32
  let main_v86 : FVec F S6x768 .f32 := broadcastInDim S6x768 ![] bcast_S_S6x768 main_cst_27
  let main_v87 : IVec S6x768 1 := cmpf .olt main_v85 main_v86
  let main_c_28 : IVec S_ 1 := constantI S_ 1 1#1
  let main_v88 : IVec S_ 1 := (fun x v => Host.reduce IntOp.andi x v reducesTo_S6x768_S_d0_1 h_S_) main_v87 main_c_28
  fn_part5 (F := F) main_arg7 main_arg8 main_arg9 main_arg10 main_arg11 main_arg12 main_arg13 main_arg14 main_arg15 main_v83 main_v88

def fn_part3 {F : FTy → Type} [FloatOps F] (main_arg2 : FVec F S6x768 .f32) (main_arg3 : FVec F S257x768 .f32) (main_arg4 : FVec F S129x768 .f32) (main_arg5 : FVec F S129x768 .f32) (main_arg6 : FVec F S257x768 .f32) (main_arg7 : FVec F S65x768 .f32) (main_arg8 : FVec F S768x6 .f32) (main_arg9 : FVec F S768x257 .f32) (main_arg10 : FVec F S768x129 .f32) (main_arg11 : FVec F S768x129 .f32) (main_arg12 : FVec F S768x257 .f32) (main_arg13 : FVec F S768x65 .f32) (main_arg14 : FVec F S768x768 .f32) (main_arg15 : FVec F S768 .f32) (main_v51 : IVec S_ 1) (main_v53 : IVec S4x2048 32) : IVec S_ 1 :=
  let main_c_17 : IVec S_ 32 := constantI S_ 32 0#32
  let main_v54 : IVec S4x2048 32 := broadcastInDim S4x2048 ![] bcast_S_S4x2048 main_c_17
  let main_v55 : IVec S4x2048 1 := cmpi .sge main_v53 main_v54
  let main_c_18 : IVec S_ 32 := constantI S_ 32 65#32
  let main_v56 : IVec S4x2048 32 := broadcastInDim S4x2048 ![] bcast_S_S4x2048 main_c_18
  let main_v57 : IVec S4x2048 1 := cmpi .slt main_v53 main_v56
  let main_v58 : IVec S4x2048 1 := andi main_v55 main_v57
  let main_c_19 : IVec S_ 1 := constantI S_ 1 1#1
  let main_v59 : IVec S_ 1 := (fun x v => Host.reduce IntOp.andi x v reducesTo_S4x2048_S_d0_1 h_S_) main_v58 main_c_19
  let main_v60 : IVec S_ 1 := andi main_v51 main_v59
  let main_v61 : FVec F S6x768 .f32 := Host.absf main_arg2
  let main_cst : FVec F S_ .f32 := constant S_ .f32 0x7F800000#32
  let main_v62 : FVec F S6x768 .f32 := broadcastInDim S6x768 ![] bcast_S_S6x768 main_cst
  let main_v63 : IVec S6x768 1 := cmpf .olt main_v61 main_v62
  let main_c_20 : IVec S_ 1 := constantI S_ 1 1#1
  let main_v64 : IVec S_ 1 := (fun x v => Host.reduce IntOp.andi x v reducesTo_S6x768_S_d0_1 h_S_) main_v63 main_c_20
  let main_v65 : IVec S_ 1 := andi main_v60 main_v64
  let main_v66 : FVec F S6x768 .f32 := (extractStridedSlice S6x768 ![0, 0] · slices_S257x768_S6x768_0_0) main_arg3
  let main_v67 : FVec F S6x768 .f32 := Host.absf main_v66
  let main_cst_21 : FVec F S_ .f32 := constant S_ .f32 0x7F800000#32
  let main_v68 : FVec F S6x768 .f32 := broadcastInDim S6x768 ![] bcast_S_S6x768 main_cst_21
  let main_v69 : IVec S6x768 1 := cmpf .olt main_v67 main_v68
  let main_c_22 : IVec S_ 1 := constantI S_ 1 1#1
  let main_v70 : IVec S_ 1 := (fun x v => Host.reduce IntOp.andi x v reducesTo_S6x768_S_d0_1 h_S_) main_v69 main_c_22
  fn_part4 (F := F) main_arg4 main_arg5 main_arg6 main_arg7 main_arg8 main_arg9 main_arg10 main_arg11 main_arg12 main_arg13 main_arg14 main_arg15 main_v65 main_v70

def fn_part2 {F : FTy → Type} [FloatOps F] (main_arg0 : IVec S4x2049x6 32) (main_arg2 : FVec F S6x768 .f32) (main_arg3 : FVec F S257x768 .f32) (main_arg4 : FVec F S129x768 .f32) (main_arg5 : FVec F S129x768 .f32) (main_arg6 : FVec F S257x768 .f32) (main_arg7 : FVec F S65x768 .f32) (main_arg8 : FVec F S768x6 .f32) (main_arg9 : FVec F S768x257 .f32) (main_arg10 : FVec F S768x129 .f32) (main_arg11 : FVec F S768x129 .f32) (main_arg12 : FVec F S768x257 .f32) (main_arg13 : FVec F S768x65 .f32) (main_arg14 : FVec F S768x768 .f32) (main_arg15 : FVec F S768 .f32) (main_v33 : IVec S_ 1) (main_v35 : IVec S4x2048 32) : IVec S_ 1 :=
  let main_c_11 : IVec S_ 32 := constantI S_ 32 0#32
  let main_v36 : IVec S4x2048 32 := broadcastInDim S4x2048 ![] bcast_S_S4x2048 main_c_11
  let main_v37 : IVec S4x2048 1 := cmpi .sge main_v35 main_v36
  let main_c_12 : IVec S_ 32 := constantI S_ 32 129#32
  let main_v38 : IVec S4x2048 32 := broadcastInDim S4x2048 ![] bcast_S_S4x2048 main_c_12
  let main_v39 : IVec S4x2048 1 := cmpi .slt main_v35 main_v38
  let main_v40 : IVec S4x2048 1 := andi main_v37 main_v39
  let main_c_13 : IVec S_ 1 := constantI S_ 1 1#1
  let main_v41 : IVec S_ 1 := (fun x v => Host.reduce IntOp.andi x v reducesTo_S4x2048_S_d0_1 h_S_) main_v40 main_c_13
  let main_v42 : IVec S_ 1 := andi main_v33 main_v41
  let main_v43 : IVec S4x2048x1 32 := (extractStridedSlice S4x2048x1 ![0, 1, 4] · slices_S4x2049x6_S4x2048x1_0_1_4) main_arg0
  let main_v44 : IVec S4x2048 32 := shapeCast S4x2048 main_v43 shapeCasts_S4x2048x1_S4x2048
  let main_c_14 : IVec S_ 32 := constantI S_ 32 0#32
  let main_v45 : IVec S4x2048 32 := broadcastInDim S4x2048 ![] bcast_S_S4x2048 main_c_14
  let main_v46 : IVec S4x2048 1 := cmpi .sge main_v44 main_v45
  let main_c_15 : IVec S_ 32 := constantI S_ 32 257#32
  let main_v47 : IVec S4x2048 32 := broadcastInDim S4x2048 ![] bcast_S_S4x2048 main_c_15
  let main_v48 : IVec S4x2048 1 := cmpi .slt main_v44 main_v47
  let main_v49 : IVec S4x2048 1 := andi main_v46 main_v48
  let main_c_16 : IVec S_ 1 := constantI S_ 1 1#1
  let main_v50 : IVec S_ 1 := (fun x v => Host.reduce IntOp.andi x v reducesTo_S4x2048_S_d0_1 h_S_) main_v49 main_c_16
  let main_v51 : IVec S_ 1 := andi main_v42 main_v50
  let main_v52 : IVec S4x2048x1 32 := (extractStridedSlice S4x2048x1 ![0, 1, 5] · slices_S4x2049x6_S4x2048x1_0_1_5) main_arg0
  let main_v53 : IVec S4x2048 32 := shapeCast S4x2048 main_v52 shapeCasts_S4x2048x1_S4x2048
  fn_part3 (F := F) main_arg2 main_arg3 main_arg4 main_arg5 main_arg6 main_arg7 main_arg8 main_arg9 main_arg10 main_arg11 main_arg12 main_arg13 main_arg14 main_arg15 main_v51 main_v53

def fn_part1 {F : FTy → Type} [FloatOps F] (main_arg0 : IVec S4x2049x6 32) (main_arg2 : FVec F S6x768 .f32) (main_arg3 : FVec F S257x768 .f32) (main_arg4 : FVec F S129x768 .f32) (main_arg5 : FVec F S129x768 .f32) (main_arg6 : FVec F S257x768 .f32) (main_arg7 : FVec F S65x768 .f32) (main_arg8 : FVec F S768x6 .f32) (main_arg9 : FVec F S768x257 .f32) (main_arg10 : FVec F S768x129 .f32) (main_arg11 : FVec F S768x129 .f32) (main_arg12 : FVec F S768x257 .f32) (main_arg13 : FVec F S768x65 .f32) (main_arg14 : FVec F S768x768 .f32) (main_arg15 : FVec F S768 .f32) (main_v15 : IVec S_ 1) (main_v17 : IVec S4x2048 32) : IVec S_ 1 :=
  let main_c_5 : IVec S_ 32 := constantI S_ 32 0#32
  let main_v18 : IVec S4x2048 32 := broadcastInDim S4x2048 ![] bcast_S_S4x2048 main_c_5
  let main_v19 : IVec S4x2048 1 := cmpi .sge main_v17 main_v18
  let main_c_6 : IVec S_ 32 := constantI S_ 32 257#32
  let main_v20 : IVec S4x2048 32 := broadcastInDim S4x2048 ![] bcast_S_S4x2048 main_c_6
  let main_v21 : IVec S4x2048 1 := cmpi .slt main_v17 main_v20
  let main_v22 : IVec S4x2048 1 := andi main_v19 main_v21
  let main_c_7 : IVec S_ 1 := constantI S_ 1 1#1
  let main_v23 : IVec S_ 1 := (fun x v => Host.reduce IntOp.andi x v reducesTo_S4x2048_S_d0_1 h_S_) main_v22 main_c_7
  let main_v24 : IVec S_ 1 := andi main_v15 main_v23
  let main_v25 : IVec S4x2048x1 32 := (extractStridedSlice S4x2048x1 ![0, 1, 2] · slices_S4x2049x6_S4x2048x1_0_1_2) main_arg0
  let main_v26 : IVec S4x2048 32 := shapeCast S4x2048 main_v25 shapeCasts_S4x2048x1_S4x2048
  let main_c_8 : IVec S_ 32 := constantI S_ 32 0#32
  let main_v27 : IVec S4x2048 32 := broadcastInDim S4x2048 ![] bcast_S_S4x2048 main_c_8
  let main_v28 : IVec S4x2048 1 := cmpi .sge main_v26 main_v27
  let main_c_9 : IVec S_ 32 := constantI S_ 32 129#32
  let main_v29 : IVec S4x2048 32 := broadcastInDim S4x2048 ![] bcast_S_S4x2048 main_c_9
  let main_v30 : IVec S4x2048 1 := cmpi .slt main_v26 main_v29
  let main_v31 : IVec S4x2048 1 := andi main_v28 main_v30
  let main_c_10 : IVec S_ 1 := constantI S_ 1 1#1
  let main_v32 : IVec S_ 1 := (fun x v => Host.reduce IntOp.andi x v reducesTo_S4x2048_S_d0_1 h_S_) main_v31 main_c_10
  let main_v33 : IVec S_ 1 := andi main_v24 main_v32
  let main_v34 : IVec S4x2048x1 32 := (extractStridedSlice S4x2048x1 ![0, 1, 3] · slices_S4x2049x6_S4x2048x1_0_1_3) main_arg0
  let main_v35 : IVec S4x2048 32 := shapeCast S4x2048 main_v34 shapeCasts_S4x2048x1_S4x2048
  fn_part2 (F := F) main_arg0 main_arg2 main_arg3 main_arg4 main_arg5 main_arg6 main_arg7 main_arg8 main_arg9 main_arg10 main_arg11 main_arg12 main_arg13 main_arg14 main_arg15 main_v33 main_v35

def fn {F : FTy → Type} [FloatOps F] (main_arg0 : IVec S4x2049x6 32) (main_arg1 : IVec S4x2049 1) (main_arg2 : FVec F S6x768 .f32) (main_arg3 : FVec F S257x768 .f32) (main_arg4 : FVec F S129x768 .f32) (main_arg5 : FVec F S129x768 .f32) (main_arg6 : FVec F S257x768 .f32) (main_arg7 : FVec F S65x768 .f32) (main_arg8 : FVec F S768x6 .f32) (main_arg9 : FVec F S768x257 .f32) (main_arg10 : FVec F S768x129 .f32) (main_arg11 : FVec F S768x129 .f32) (main_arg12 : FVec F S768x257 .f32) (main_arg13 : FVec F S768x65 .f32) (main_arg14 : FVec F S768x768 .f32) (main_arg15 : FVec F S768 .f32) : IVec S_ 1 :=
  let main_v0 : IVec S4x2048x6 32 := (extractStridedSlice S4x2048x6 ![0, 0, 0] · slices_S4x2049x6_S4x2048x6_0_0_0) main_arg0
  let main_c : IVec S_ 32 := constantI S_ 32 0#32
  let main_v1 : IVec S4x2048x6 32 := broadcastInDim S4x2048x6 ![] bcast_S_S4x2048x6 main_c
  let main_v2 : IVec S4x2048x6 1 := cmpi .sge main_v0 main_v1
  let main_c_0 : IVec S_ 32 := constantI S_ 32 6#32
  let main_v3 : IVec S4x2048x6 32 := broadcastInDim S4x2048x6 ![] bcast_S_S4x2048x6 main_c_0
  let main_v4 : IVec S4x2048x6 1 := cmpi .slt main_v0 main_v3
  let main_v5 : IVec S4x2048x6 1 := andi main_v2 main_v4
  let main_c_1 : IVec S_ 1 := constantI S_ 1 1#1
  let main_v6 : IVec S_ 1 := (fun x v => Host.reduce IntOp.andi x v reducesTo_S4x2048x6_S_d0_1_2 h_S_) main_v5 main_c_1
  let main_v7 : IVec S4x2048x1 32 := (extractStridedSlice S4x2048x1 ![0, 1, 0] · slices_S4x2049x6_S4x2048x1_0_1_0) main_arg0
  let main_v8 : IVec S4x2048 32 := shapeCast S4x2048 main_v7 shapeCasts_S4x2048x1_S4x2048
  let main_c_2 : IVec S_ 32 := constantI S_ 32 0#32
  let main_v9 : IVec S4x2048 32 := broadcastInDim S4x2048 ![] bcast_S_S4x2048 main_c_2
  let main_v10 : IVec S4x2048 1 := cmpi .sge main_v8 main_v9
  let main_c_3 : IVec S_ 32 := constantI S_ 32 6#32
  let main_v11 : IVec S4x2048 32 := broadcastInDim S4x2048 ![] bcast_S_S4x2048 main_c_3
  let main_v12 : IVec S4x2048 1 := cmpi .slt main_v8 main_v11
  let main_v13 : IVec S4x2048 1 := andi main_v10 main_v12
  let main_c_4 : IVec S_ 1 := constantI S_ 1 1#1
  let main_v14 : IVec S_ 1 := (fun x v => Host.reduce IntOp.andi x v reducesTo_S4x2048_S_d0_1 h_S_) main_v13 main_c_4
  let main_v15 : IVec S_ 1 := andi main_v6 main_v14
  let main_v16 : IVec S4x2048x1 32 := (extractStridedSlice S4x2048x1 ![0, 1, 1] · slices_S4x2049x6_S4x2048x1_0_1_1) main_arg0
  let main_v17 : IVec S4x2048 32 := shapeCast S4x2048 main_v16 shapeCasts_S4x2048x1_S4x2048
  fn_part1 (F := F) main_arg0 main_arg2 main_arg3 main_arg4 main_arg5 main_arg6 main_arg7 main_arg8 main_arg9 main_arg10 main_arg11 main_arg12 main_arg13 main_arg14 main_arg15 main_v15 main_v17
-- ==== Kernel.lean ====
abbrev S4x2049x6 : Shape := ⟨3, ![4, 2049, 6]⟩
abbrev S4x2049 : Shape := ⟨2, ![4, 2049]⟩
abbrev S6x768 : Shape := ⟨2, ![6, 768]⟩
abbrev S257x768 : Shape := ⟨2, ![257, 768]⟩
abbrev S129x768 : Shape := ⟨2, ![129, 768]⟩
abbrev S65x768 : Shape := ⟨2, ![65, 768]⟩
abbrev S768x6 : Shape := ⟨2, ![768, 6]⟩
abbrev S768x257 : Shape := ⟨2, ![768, 257]⟩
abbrev S768x129 : Shape := ⟨2, ![768, 129]⟩
abbrev S768x65 : Shape := ⟨2, ![768, 65]⟩
abbrev S768x768 : Shape := ⟨2, ![768, 768]⟩
abbrev S768 : Shape := ⟨1, ![768]⟩
abbrev S4x2048x6 : Shape := ⟨3, ![4, 2048, 6]⟩
abbrev S8x1024x6 : Shape := ⟨3, ![8, 1024, 6]⟩
abbrev S36x768 : Shape := ⟨2, ![36, 768]⟩
abbrev S_ : Shape := ⟨0, ![]⟩
abbrev S48x768 : Shape := ⟨2, ![48, 768]⟩
abbrev S768x843 : Shape := ⟨2, ![768, 843]⟩
abbrev S768x896 : Shape := ⟨2, ![768, 896]⟩
abbrev S1x768 : Shape := ⟨2, ![1, 768]⟩
abbrev S8x768 : Shape := ⟨2, ![8, 768]⟩
abbrev S8x8x128 : Shape := ⟨3, ![8, 8, 128]⟩
abbrev S1x1024x6 : Shape := ⟨3, ![1, 1024, 6]⟩
abbrev S1x8x128 : Shape := ⟨3, ![1, 8, 128]⟩
abbrev S1024x6 : Shape := ⟨2, ![1024, 6]⟩
abbrev S1024x48 : Shape := ⟨2, ![1024, 48]⟩
abbrev S1024x1 : Shape := ⟨2, ![1024, 1]⟩
abbrev S1024x768 : Shape := ⟨2, ![1024, 768]⟩
abbrev S1024x896 : Shape := ⟨2, ![1024, 896]⟩
abbrev S1024 : Shape := ⟨1, ![1024]⟩
abbrev S1024x257 : Shape := ⟨2, ![1024, 257]⟩
abbrev S1024x129 : Shape := ⟨2, ![1024, 129]⟩
abbrev S1024x65 : Shape := ⟨2, ![1024, 65]⟩
abbrev S1024x2 : Shape := ⟨2, ![1024, 2]⟩
abbrev S1024x8 : Shape := ⟨2, ![1024, 8]⟩
abbrev S8 : Shape := ⟨1, ![8]⟩
abbrev S1x8 : Shape := ⟨2, ![1, 8]⟩
abbrev S2x8 : Shape := ⟨2, ![2, 8]⟩
abbrev S6x8 : Shape := ⟨2, ![6, 8]⟩
abbrev S8x8 : Shape := ⟨2, ![8, 8]⟩
abbrev S8x120 : Shape := ⟨2, ![8, 120]⟩
abbrev S8x128 : Shape := ⟨2, ![8, 128]⟩
abbrev S1x6 : Shape := ⟨2, ![1, 6]⟩
abbrev S6 : Shape := ⟨1, ![6]⟩

abbrev nBuf : Space → Nat
  | .hbm => 48
  | .vmem => 11
  | .smem => 0
  | _ => 0

abbrev bufTy : (tb : Table) → Fin (tcTables nBuf tb) → BufTy
  | .hbm, ⟨0, _⟩ => ⟨S4x2049x6, .i32⟩
  | .hbm, ⟨1, _⟩ => ⟨S4x2049, .i1⟩
  | .hbm, ⟨2, _⟩ => ⟨S6x768, .f32⟩
  | .hbm, ⟨3, _⟩ => ⟨S257x768, .f32⟩
  | .hbm, ⟨4, _⟩ => ⟨S129x768, .f32⟩
  | .hbm, ⟨5, _⟩ => ⟨S129x768, .f32⟩
  | .hbm, ⟨6, _⟩ => ⟨S257x768, .f32⟩
  | .hbm, ⟨7, _⟩ => ⟨S65x768, .f32⟩
  | .hbm, ⟨8, _⟩ => ⟨S768x6, .f32⟩
  | .hbm, ⟨9, _⟩ => ⟨S768x257, .f32⟩
  | .hbm, ⟨10, _⟩ => ⟨S768x129, .f32⟩
  | .hbm, ⟨11, _⟩ => ⟨S768x129, .f32⟩
  | .hbm, ⟨12, _⟩ => ⟨S768x257, .f32⟩
  | .hbm, ⟨13, _⟩ => ⟨S768x65, .f32⟩
  | .hbm, ⟨14, _⟩ => ⟨S768x768, .f32⟩
  | .hbm, ⟨15, _⟩ => ⟨S768, .f32⟩
  | .hbm, ⟨16, _⟩ => ⟨S4x2048x6, .i32⟩
  | .hbm, ⟨17, _⟩ => ⟨S8x1024x6, .i32⟩
  | .hbm, ⟨18, _⟩ => ⟨S4x2048x6, .i32⟩
  | .hbm, ⟨19, _⟩ => ⟨S8x1024x6, .i32⟩
  | .hbm, ⟨20, _⟩ => ⟨S6x768, .f32⟩
  | .hbm, ⟨21, _⟩ => ⟨S6x768, .f32⟩
  | .hbm, ⟨22, _⟩ => ⟨S6x768, .f32⟩
  | .hbm, ⟨23, _⟩ => ⟨S6x768, .f32⟩
  | .hbm, ⟨24, _⟩ => ⟨S6x768, .f32⟩
  | .hbm, ⟨25, _⟩ => ⟨S36x768, .f32⟩
  | .hbm, ⟨26, _⟩ => ⟨S_, .i32⟩
  | .hbm, ⟨27, _⟩ => ⟨S_, .f32⟩
  | .hbm, ⟨28, _⟩ => ⟨S48x768, .f32⟩
  | .hbm, ⟨29, _⟩ => ⟨S768x843, .f32⟩
  | .hbm, ⟨30, _⟩ => ⟨S_, .i32⟩
  | .hbm, ⟨31, _⟩ => ⟨S_, .f32⟩
  | .hbm, ⟨32, _⟩ => ⟨S768x896, .f32⟩
  | .hbm, ⟨33, _⟩ => ⟨S1x768, .f32⟩
  | .hbm, ⟨34, _⟩ => ⟨S8x768, .f32⟩
  | .hbm, ⟨35, _⟩ => ⟨S8x8x128, .f32⟩
  | .hbm, ⟨36, _⟩ => ⟨S_, .f32⟩
  | .hbm, ⟨37, _⟩ => ⟨S8x128, .f32⟩
  | .hbm, ⟨38, _⟩ => ⟨S1x6, .f32⟩
  | .hbm, ⟨39, _⟩ => ⟨S6, .f32⟩
  | .hbm, ⟨40, _⟩ => ⟨S1x6, .f32⟩
  | .hbm, ⟨41, _⟩ => ⟨S6, .f32⟩
  | .hbm, ⟨42, _⟩ => ⟨S_, .f32⟩
  | .hbm, ⟨43, _⟩ => ⟨S6, .f32⟩
  | .hbm, ⟨44, _⟩ => ⟨S6, .f32⟩
  | .hbm, ⟨45, _⟩ => ⟨S6, .f32⟩
  | .hbm, ⟨46, _⟩ => ⟨S_, .f32⟩
  | .hbm, ⟨47, _⟩ => ⟨S_, .f32⟩
  | .local _ .vmem, ⟨0, _⟩ => ⟨S1x1024x6, .i32⟩
  | .local _ .vmem, ⟨1, _⟩ => ⟨S1x1024x6, .i32⟩
  | .local _ .vmem, ⟨2, _⟩ => ⟨S1x1024x6, .i32⟩
  | .local _ .vmem, ⟨3, _⟩ => ⟨S1x1024x6, .i32⟩
  | .local _ .vmem, ⟨4, _⟩ => ⟨S48x768, .f32⟩
  | .local _ .vmem, ⟨5, _⟩ => ⟨S768x768, .f32⟩
  | .local _ .vmem, ⟨6, _⟩ => ⟨S8x768, .f32⟩
  | .local _ .vmem, ⟨7, _⟩ => ⟨S768x896, .f32⟩
  | .local _ .vmem, ⟨8, _⟩ => ⟨S1x8x128, .f32⟩
  | .local _ .vmem, ⟨9, _⟩ => ⟨S1x8x128, .f32⟩
  | .local _ .vmem, ⟨10, _⟩ => ⟨S48x768, .f32⟩
  | _, _ => ⟨S4x2049x6, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_call0_v0 : Ref sig .tc := ⟨.hbm, 27, rfl⟩
abbrev main_v10 : Ref sig .tc := ⟨.hbm, 28, rfl⟩
abbrev main_v11 : Ref sig .tc := ⟨.hbm, 29, rfl⟩
abbrev main_c_0 : Ref sig .tc := ⟨.hbm, 30, rfl⟩
abbrev main_call1_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x6 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x6 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x896 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x2049x6 : Shape := ⟨3, ![4, 2049, 6]⟩
abbrev S4x2049 : Shape := ⟨2, ![4, 2049]⟩
abbrev S6x768 : Shape := ⟨2, ![6, 768]⟩
abbrev S257x768 : Shape := ⟨2, ![257, 768]⟩
abbrev S129x768 : Shape := ⟨2, ![129, 768]⟩
abbrev S65x768 : Shape := ⟨2, ![65, 768]⟩
abbrev S768x6 : Shape := ⟨2, ![768, 6]⟩
abbrev S768x257 : Shape := ⟨2, ![768, 257]⟩
abbrev S768x129 : Shape := ⟨2, ![768, 129]⟩
abbrev S768x65 : Shape := ⟨2, ![768, 65]⟩
abbrev S768x768 : Shape := ⟨2, ![768, 768]⟩
abbrev S768 : Shape := ⟨1, ![768]⟩
abbrev S4x2048x6 : Shape := ⟨3, ![4, 2048, 6]⟩
abbrev S4x2048x1 : Shape := ⟨3, ![4, 2048, 1]⟩
abbrev S4x2048 : Shape := ⟨2, ![4, 2048]⟩
abbrev S_ : Shape := ⟨0, ![]⟩
abbrev S4x2048x768 : Shape := ⟨3, ![4, 2048, 768]⟩
abbrev S1x1x768 : Shape := ⟨3, ![1, 1, 768]⟩
abbrev S4x2048x1x1 : Shape := ⟨4, ![4, 2048, 1, 1]⟩
abbrev S1 : Shape := ⟨1, ![1]⟩
abbrev S1x1x1x1 : Shape := ⟨4, ![1, 1, 1, 1]⟩
abbrev S4x2048x257 : Shape := ⟨3, ![4, 2048, 257]⟩
abbrev S4x2048x129 : Shape := ⟨3, ![4, 2048, 129]⟩
abbrev S4x2048x65 : Shape := ⟨3, ![4, 2048, 65]⟩
abbrev S6 : Shape := ⟨1, ![6]⟩

abbrev nBuf : Space → Nat
  | .hbm => 435
  | .vmem => 0
  | .smem => 0
  | _ => 0

abbrev hbmTy0_0 (i : Nat) : BufTy := match i % 128 with
  | 0 => ⟨S4x2049x6, .i32⟩
  | 1 => ⟨S4x2049, .i1⟩
  | 2 => ⟨S6x768, .f32⟩
  | 3 => ⟨S257x768, .f32⟩
  | 4 => ⟨S129x768, .f32⟩
  | 5 => ⟨S129x768, .f32⟩
  | 6 => ⟨S257x768, .f32⟩
  | 7 => ⟨S65x768, .f32⟩
  | 8 => ⟨S768x6, .f32⟩
  | 9 => ⟨S768x257, .f32⟩
  | 10 => ⟨S768x129, .f32⟩
  | 11 => ⟨S768x129, .f32⟩
  | 12 => ⟨S768x257, .f32⟩
  | 13 => ⟨S768x65, .f32⟩
  | 14 => ⟨S768x768, .f32⟩
  | 15 => ⟨S768, .f32⟩
  | 16 => ⟨S4x2048x6, .i32⟩
  | 17 => ⟨S4x2048x6, .i32⟩
  | 18 => ⟨S4x2048x1, .i32⟩
  | 19 => ⟨S4x2048, .i32⟩
  | 20 => ⟨S_, .i32⟩
  | 21 => ⟨S4x2048, .i32⟩
  | 22 => ⟨S4x2048, .i1⟩
  | 23 => ⟨S_, .i32⟩
  | 24 => ⟨S4x2048, .i32⟩
  | 25 => ⟨S4x2048, .i32⟩
  | 26 => ⟨S4x2048, .i32⟩
  | 27 => ⟨S4x2048x1, .i32⟩
  | 28 => ⟨S4x2048x768, .f32⟩
  | 29 => ⟨S4x2048x1, .i32⟩
  | 30 => ⟨S4x2048, .i32⟩
  | 31 => ⟨S_, .i32⟩
  | 32 => ⟨S4x2048, .i32⟩
  | 33 => ⟨S4x2048, .i1⟩
  | 34 => ⟨S_, .i32⟩
  | 35 => ⟨S4x2048, .i32⟩
  | 36 => ⟨S4x2048, .i32⟩
  | 37 => ⟨S4x2048, .i32⟩
  | 38 => ⟨S4x2048x1, .i32⟩
  | 39 => ⟨S4x2048x768, .f32⟩
  | 40 => ⟨S4x2048x768, .f32⟩
  | 41 => ⟨S4x2048x1, .i32⟩
  | 42 => ⟨S4x2048, .i32⟩
  | 43 => ⟨S_, .i32⟩
  | 44 => ⟨S4x2048, .i32⟩
  | 45 => ⟨S4x2048, .i1⟩
  | 46 => ⟨S_, .i32⟩
  | 47 => ⟨S4x2048, .i32⟩
  | 48 => ⟨S4x2048, .i32⟩
  | 49 => ⟨S4x2048, .i32⟩
  | 50 => ⟨S4x2048x1, .i32⟩
  | 51 => ⟨S4x2048x768, .f32⟩
  | 52 => ⟨S4x2048x768, .f32⟩
  | 53 => ⟨S4x2048x1, .i32⟩
  | 54 => ⟨S4x2048, .i32⟩
  | 55 => ⟨S_, .i32⟩
  | 56 => ⟨S4x2048, .i32⟩
  | 57 => ⟨S4x2048, .i1⟩
  | 58 => ⟨S_, .i32⟩
  | 59 => ⟨S4x2048, .i32⟩
  | 60 => ⟨S4x2048, .i32⟩
  | 61 => ⟨S4x2048, .i32⟩
  | 62 => ⟨S4x2048x1, .i32⟩
  | 63 => ⟨S4x2048x768, .f32⟩
  | 64 => ⟨S4x2048x768, .f32⟩
  | 65 => ⟨S4x2048x1, .i32⟩
  | 66 => ⟨S4x2048, .i32⟩
  | 67 => ⟨S_, .i32⟩
  | 68 => ⟨S4x2048, .i32⟩
  | 69 => ⟨S4x2048, .i1⟩
  | 70 => ⟨S_, .i32⟩
  | 71 => ⟨S4x2048, .i32⟩
  | 72 => ⟨S4x2048, .i32⟩
  | 73 => ⟨S4x2048, .i32⟩
  | 74 => ⟨S4x2048x1, .i32⟩
  | 75 => ⟨S4x2048x768, .f32⟩
  | 76 => ⟨S4x2048x768, .f32⟩
  | 77 => ⟨S4x2048x1, .i32⟩
  | 78 => ⟨S4x2048, .i32⟩
  | 79 => ⟨S_, .i32⟩
  | 80 => ⟨S4x2048, .i32⟩
  | 81 => ⟨S4x2048, .i1⟩
  | 82 => ⟨S_, .i32⟩
  | 83 => ⟨S4x2048, .i32⟩
  | 84 => ⟨S4x2048, .i32⟩
  | 85 => ⟨S4x2048, .i32⟩
  | 86 => ⟨S4x2048x1, .i32⟩
  | 87 => ⟨S4x2048x768, .f32⟩
  | 88 => ⟨S4x2048x768, .f32⟩
  | 89 => ⟨S4x2048x768, .f32⟩
  | 90 => ⟨S1x1x768, .f32⟩
  | 91 => ⟨S4x2048x768, .f32⟩
  | 92 => ⟨S4x2048x768, .f32⟩
  | 93 => ⟨S_, .f32⟩
  | 94 => ⟨S4x2048x768, .f32⟩
  | 95 => ⟨S4x2048x768, .f32⟩
  | 96 => ⟨S4x2048x6, .f32⟩
  | 97 => ⟨S4x2048x1, .i32⟩
  | 98 => ⟨S4x2048, .i32⟩
  | 99 => ⟨S_, .f32⟩
  | 100 => ⟨S4x2048, .f32⟩
  | 101 => ⟨S_, .f32⟩
  | 102 => ⟨S4x2048, .f32⟩
  | 103 => ⟨S4x2048, .f32⟩
  | 104 => ⟨S4x2048x1, .f32⟩
  | 105 => ⟨S4x2048x6, .f32⟩
  | 106 => ⟨S4x2048x6, .f32⟩
  | 107 => ⟨S4x2048x6, .f32⟩
  | 108 => ⟨S_, .f32⟩
  | 109 => ⟨S4x2048, .f32⟩
  | 110 => ⟨S4x2048x1, .f32⟩
  | 111 => ⟨S4x2048x1, .f32⟩
  | 112 => ⟨S4x2048x6, .f32⟩
  | 113 => ⟨S4x2048x6, .f32⟩
  | 114 => ⟨S4x2048x1, .i32⟩
  | 115 => ⟨S_, .i32⟩
  | 116 => ⟨S4x2048x1, .i32⟩
  | 117 => ⟨S4x2048x1, .i1⟩
  | 118 => ⟨S_, .i32⟩
  | 119 => ⟨S4x2048x1, .i32⟩
  | 120 => ⟨S4x2048x1, .i32⟩
  | 121 => ⟨S4x2048x1, .i32⟩
  | 122 => ⟨S4x2048x1x1, .i32⟩
  | 123 => ⟨S1, .i32⟩
  | 124 => ⟨S_, .i32⟩
  | 125 => ⟨S4x2048x1x1, .i32⟩
  | 126 => ⟨S4x2048x1x1, .i1⟩
  | 127 => ⟨S1x1x1x1, .i32⟩
  | _ => ⟨S4x2049x6, .i32⟩

abbrev hbmTy0_1 (i : Nat) : BufTy := match i % 128 with
  | 0 => ⟨S4x2048x1x1, .i32⟩
  | 1 => ⟨S4x2048x1x1, .i1⟩
  | 2 => ⟨S4x2048x1x1, .i1⟩
  | 3 => ⟨S_, .i1⟩
  | 4 => ⟨S4x2048x1, .i1⟩
  | 5 => ⟨S4x2048x1, .f32⟩
  | 6 => ⟨S_, .f32⟩
  | 7 => ⟨S4x2048x1, .f32⟩
  | 8 => ⟨S4x2048x1, .f32⟩
  | 9 => ⟨S4x2048, .f32⟩
  | 10 => ⟨S4x2048, .f32⟩
  | 11 => ⟨S_, .i32⟩
  | 12 => ⟨S4x2048, .i32⟩
  | 13 => ⟨S4x2048, .i1⟩
  | 14 => ⟨S4x2048, .f32⟩
  | 15 => ⟨S4x2048, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S4x2048x257, .f32⟩
  | 24 => ⟨S4x2048x1, .i32⟩
  | 25 => ⟨S4x2048, .i32⟩
  | 26 => ⟨S_, .f32⟩
  | 27 => ⟨S4x2048, .f32⟩
  | 28 => ⟨S_, .f32⟩
  | 29 => ⟨S4x2048, .f32⟩
  | 30 => ⟨S4x2048, .f32⟩
  | 31 => ⟨S4x2048x1, .f32⟩
  | 32 => ⟨S4x2048x257, .f32⟩
  | 33 => ⟨S4x2048x257, .f32⟩
  | 34 => ⟨S4x2048x257, .f32⟩
  | 35 => ⟨S_, .f32⟩
  | 36 => ⟨S4x2048, .f32⟩
  | 37 => ⟨S4x2048x1, .f32⟩
  | 38 => ⟨S4x2048x1, .f32⟩
  | 39 => ⟨S4x2048x257, .f32⟩
  | 40 => ⟨S4x2048x257, .f32⟩
  | 41 => ⟨S4x2048x1, .i32⟩
  | 42 => ⟨S_, .i32⟩
  | 43 => ⟨S4x2048x1, .i32⟩
  | 44 => ⟨S4x2048x1, .i1⟩
  | 45 => ⟨S_, .i32⟩
  | 46 => ⟨S4x2048x1, .i32⟩
  | 47 => ⟨S4x2048x1, .i32⟩
  | 48 => ⟨S4x2048x1, .i32⟩
  | 49 => ⟨S4x2048x1x1, .i32⟩
  | 50 => ⟨S1, .i32⟩
  | 51 => ⟨S_, .i32⟩
  | 52 => ⟨S4x2048x1x1, .i32⟩
  | 53 => ⟨S4x2048x1x1, .i1⟩
  | 54 => ⟨S1x1x1x1, .i32⟩
  | 55 => ⟨S4x2048x1x1, .i32⟩
  | 56 => ⟨S4x2048x1x1, .i1⟩
  | 57 => ⟨S4x2048x1x1, .i1⟩
  | 58 => ⟨S_, .i1⟩
  | 59 => ⟨S4x2048x1, .i1⟩
  | 60 => ⟨S4x2048x1, .f32⟩
  | 61 => ⟨S_, .f32⟩
  | 62 => ⟨S4x2048x1, .f32⟩
  | 63 => ⟨S4x2048x1, .f32⟩
  | 64 => ⟨S4x2048, .f32⟩
  | 65 => ⟨S4x2048, .f32⟩
  | 66 => ⟨S_, .i32⟩
  | 67 => ⟨S4x2048, .i32⟩
  | 68 => ⟨S4x2048, .i1⟩
  | 69 => ⟨S4x2048, .f32⟩
  | 70 => ⟨S4x2048, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S4x2048x129, .f32⟩
  | 79 => ⟨S4x2048x1, .i32⟩
  | 80 => ⟨S4x2048, .i32⟩
  | 81 => ⟨S_, .f32⟩
  | 82 => ⟨S4x2048, .f32⟩
  | 83 => ⟨S_, .f32⟩
  | 84 => ⟨S4x2048, .f32⟩
  | 85 => ⟨S4x2048, .f32⟩
  | 86 => ⟨S4x2048x1, .f32⟩
  | 87 => ⟨S4x2048x129, .f32⟩
  | 88 => ⟨S4x2048x129, .f32⟩
  | 89 => ⟨S4x2048x129, .f32⟩
  | 90 => ⟨S_, .f32⟩
  | 91 => ⟨S4x2048, .f32⟩
  | 92 => ⟨S4x2048x1, .f32⟩
  | 93 => ⟨S4x2048x1, .f32⟩
  | 94 => ⟨S4x2048x129, .f32⟩
  | 95 => ⟨S4x2048x129, .f32⟩
  | 96 => ⟨S4x2048x1, .i32⟩
  | 97 => ⟨S_, .i32⟩
  | 98 => ⟨S4x2048x1, .i32⟩
  | 99 => ⟨S4x2048x1, .i1⟩
  | 100 => ⟨S_, .i32⟩
  | 101 => ⟨S4x2048x1, .i32⟩
  | 102 => ⟨S4x2048x1, .i32⟩
  | 103 => ⟨S4x2048x1, .i32⟩
  | 104 => ⟨S4x2048x1x1, .i32⟩
  | 105 => ⟨S1, .i32⟩
  | 106 => ⟨S_, .i32⟩
  | 107 => ⟨S4x2048x1x1, .i32⟩
  | 108 => ⟨S4x2048x1x1, .i1⟩
  | 109 => ⟨S1x1x1x1, .i32⟩
  | 110 => ⟨S4x2048x1x1, .i32⟩
  | 111 => ⟨S4x2048x1x1, .i1⟩
  | 112 => ⟨S4x2048x1x1, .i1⟩
  | 113 => ⟨S_, .i1⟩
  | 114 => ⟨S4x2048x1, .i1⟩
  | 115 => ⟨S4x2048x1, .f32⟩
  | 116 => ⟨S_, .f32⟩
  | 117 => ⟨S4x2048x1, .f32⟩
  | 118 => ⟨S4x2048x1, .f32⟩
  | 119 => ⟨S4x2048, .f32⟩
  | 120 => ⟨S4x2048, .f32⟩
  | 121 => ⟨S_, .i32⟩
  | 122 => ⟨S4x2048, .i32⟩
  | 123 => ⟨S4x2048, .i1⟩
  | 124 => ⟨S4x2048, .f32⟩
  | 125 => ⟨S4x2048, .f32⟩
  | 126 => ⟨S_, .f32⟩
  | 127 => ⟨S_, .f32⟩
  | _ => ⟨S4x2049x6, .i32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S4x2048x129, .f32⟩
  | 6 => ⟨S4x2048x1, .i32⟩
  | 7 => ⟨S4x2048, .i32⟩
  | 8 => ⟨S_, .f32⟩
  | 9 => ⟨S4x2048, .f32⟩
  | 10 => ⟨S_, .f32⟩
  | 11 => ⟨S4x2048, .f32⟩
  | 12 => ⟨S4x2048, .f32⟩
  | 13 => ⟨S4x2048x1, .f32⟩
  | 14 => ⟨S4x2048x129, .f32⟩
  | 15 => ⟨S4x2048x129, .f32⟩
  | 16 => ⟨S4x2048x129, .f32⟩
  | 17 => ⟨S_, .f32⟩
  | 18 => ⟨S4x2048, .f32⟩
  | 19 => ⟨S4x2048x1, .f32⟩
  | 20 => ⟨S4x2048x1, .f32⟩
  | 21 => ⟨S4x2048x129, .f32⟩
  | 22 => ⟨S4x2048x129, .f32⟩
  | 23 => ⟨S4x2048x1, .i32⟩
  | 24 => ⟨S_, .i32⟩
  | 25 => ⟨S4x2048x1, .i32⟩
  | 26 => ⟨S4x2048x1, .i1⟩
  | 27 => ⟨S_, .i32⟩
  | 28 => ⟨S4x2048x1, .i32⟩
  | 29 => ⟨S4x2048x1, .i32⟩
  | 30 => ⟨S4x2048x1, .i32⟩
  | 31 => ⟨S4x2048x1x1, .i32⟩
  | 32 => ⟨S1, .i32⟩
  | 33 => ⟨S_, .i32⟩
  | 34 => ⟨S4x2048x1x1, .i32⟩
  | 35 => ⟨S4x2048x1x1, .i1⟩
  | 36 => ⟨S1x1x1x1, .i32⟩
  | 37 => ⟨S4x2048x1x1, .i32⟩
  | 38 => ⟨S4x2048x1x1, .i1⟩
  | 39 => ⟨S4x2048x1x1, .i1⟩
  | 40 => ⟨S_, .i1⟩
  | 41 => ⟨S4x2048x1, .i1⟩
  | 42 => ⟨S4x2048x1, .f32⟩
  | 43 => ⟨S_, .f32⟩
  | 44 => ⟨S4x2048x1, .f32⟩
  | 45 => ⟨S4x2048x1, .f32⟩
  | 46 => ⟨S4x2048, .f32⟩
  | 47 => ⟨S4x2048, .f32⟩
  | 48 => ⟨S_, .i32⟩
  | 49 => ⟨S4x2048, .i32⟩
  | 50 => ⟨S4x2048, .i1⟩
  | 51 => ⟨S4x2048, .f32⟩
  | 52 => ⟨S4x2048, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S4x2048x257, .f32⟩
  | 61 => ⟨S4x2048x1, .i32⟩
  | 62 => ⟨S4x2048, .i32⟩
  | 63 => ⟨S_, .f32⟩
  | 64 => ⟨S4x2048, .f32⟩
  | 65 => ⟨S_, .f32⟩
  | 66 => ⟨S4x2048, .f32⟩
  | 67 => ⟨S4x2048, .f32⟩
  | 68 => ⟨S4x2048x1, .f32⟩
  | 69 => ⟨S4x2048x257, .f32⟩
  | 70 => ⟨S4x2048x257, .f32⟩
  | 71 => ⟨S4x2048x257, .f32⟩
  | 72 => ⟨S_, .f32⟩
  | 73 => ⟨S4x2048, .f32⟩
  | 74 => ⟨S4x2048x1, .f32⟩
  | 75 => ⟨S4x2048x1, .f32⟩
  | 76 => ⟨S4x2048x257, .f32⟩
  | 77 => ⟨S4x2048x257, .f32⟩
  | 78 => ⟨S4x2048x1, .i32⟩
  | 79 => ⟨S_, .i32⟩
  | 80 => ⟨S4x2048x1, .i32⟩
  | 81 => ⟨S4x2048x1, .i1⟩
  | 82 => ⟨S_, .i32⟩
  | 83 => ⟨S4x2048x1, .i32⟩
  | 84 => ⟨S4x2048x1, .i32⟩
  | 85 => ⟨S4x2048x1, .i32⟩
  | 86 => ⟨S4x2048x1x1, .i32⟩
  | 87 => ⟨S1, .i32⟩
  | 88 => ⟨S_, .i32⟩
  | 89 => ⟨S4x2048x1x1, .i32⟩
  | 90 => ⟨S4x2048x1x1, .i1⟩
  | 91 => ⟨S1x1x1x1, .i32⟩
  | 92 => ⟨S4x2048x1x1, .i32⟩
  | 93 => ⟨S4x2048x1x1, .i1⟩
  | 94 => ⟨S4x2048x1x1, .i1⟩
  | 95 => ⟨S_, .i1⟩
  | 96 => ⟨S4x2048x1, .i1⟩
  | 97 => ⟨S4x2048x1, .f32⟩
  | 98 => ⟨S_, .f32⟩
  | 99 => ⟨S4x2048x1, .f32⟩
  | 100 => ⟨S4x2048x1, .f32⟩
  | 101 => ⟨S4x2048, .f32⟩
  | 102 => ⟨S4x2048, .f32⟩
  | 103 => ⟨S_, .i32⟩
  | 104 => ⟨S4x2048, .i32⟩
  | 105 => ⟨S4x2048, .i1⟩
  | 106 => ⟨S4x2048, .f32⟩
  | 107 => ⟨S4x2048, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S4x2048x65, .f32⟩
  | 116 => ⟨S4x2048x1, .i32⟩
  | 117 => ⟨S4x2048, .i32⟩
  | 118 => ⟨S_, .f32⟩
  | 119 => ⟨S4x2048, .f32⟩
  | 120 => ⟨S_, .f32⟩
  | 121 => ⟨S4x2048, .f32⟩
  | 122 => ⟨S4x2048, .f32⟩
  | 123 => ⟨S4x2048x1, .f32⟩
  | 124 => ⟨S4x2048x65, .f32⟩
  | 125 => ⟨S4x2048x65, .f32⟩
  | 126 => ⟨S4x2048x65, .f32⟩
  | 127 => ⟨S_, .f32⟩
  | _ => ⟨S4x2049x6, .i32⟩

abbrev hbmTy0_3 (i : Nat) : BufTy := match i % 128 with
  | 0 => ⟨S4x2048, .f32⟩
  | 1 => ⟨S4x2048x1, .f32⟩
  | 2 => ⟨S4x2048x1, .f32⟩
  | 3 => ⟨S4x2048x65, .f32⟩
  | 4 => ⟨S4x2048x65, .f32⟩
  | 5 => ⟨S4x2048x1, .i32⟩
  | 6 => ⟨S_, .i32⟩
  | 7 => ⟨S4x2048x1, .i32⟩
  | 8 => ⟨S4x2048x1, .i1⟩
  | 9 => ⟨S_, .i32⟩
  | 10 => ⟨S4x2048x1, .i32⟩
  | 11 => ⟨S4x2048x1, .i32⟩
  | 12 => ⟨S4x2048x1, .i32⟩
  | 13 => ⟨S4x2048x1x1, .i32⟩
  | 14 => ⟨S1, .i32⟩
  | 15 => ⟨S_, .i32⟩
  | 16 => ⟨S4x2048x1x1, .i32⟩
  | 17 => ⟨S4x2048x1x1, .i1⟩
  | 18 => ⟨S1x1x1x1, .i32⟩
  | 19 => ⟨S4x2048x1x1, .i32⟩
  | 20 => ⟨S4x2048x1x1, .i1⟩
  | 21 => ⟨S4x2048x1x1, .i1⟩
  | 22 => ⟨S_, .i1⟩
  | 23 => ⟨S4x2048x1, .i1⟩
  | 24 => ⟨S4x2048x1, .f32⟩
  | 25 => ⟨S_, .f32⟩
  | 26 => ⟨S4x2048x1, .f32⟩
  | 27 => ⟨S4x2048x1, .f32⟩
  | 28 => ⟨S4x2048, .f32⟩
  | 29 => ⟨S4x2048, .f32⟩
  | 30 => ⟨S_, .i32⟩
  | 31 => ⟨S4x2048, .i32⟩
  | 32 => ⟨S4x2048, .i1⟩
  | 33 => ⟨S4x2048, .f32⟩
  | 34 => ⟨S4x2048, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S1, .f32⟩
  | 43 => ⟨S1, .f32⟩
  | 44 => ⟨S1, .f32⟩
  | 45 => ⟨S1, .f32⟩
  | 46 => ⟨S1, .f32⟩
  | 47 => ⟨S1, .f32⟩
  | 48 => ⟨S6, .f32⟩
  | 49 => ⟨S_, .f32⟩
  | 50 => ⟨S_, .f32⟩
  | _ => ⟨S4x2049x6, .i32⟩

abbrev hbmTy (i : Nat) : BufTy := match i / 128 with
  | 0 => hbmTy0_0 i
  | 1 => hbmTy0_1 i
  | 2 => hbmTy0_2 i
  | 3 => hbmTy0_3 i
  | _ => ⟨S4x2049x6, .i32⟩

abbrev bufTy : (tb : Table) → Fin (tcTables nBuf tb) → BufTy
  | .hbm, ⟨i, _⟩ => hbmTy i
  | _, _ => ⟨S4x2049x6, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_3 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_c_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_7 : Ref sig .tc := ⟨.hbm, 67, rfl⟩
abbrev main_v43 : Ref sig .tc := ⟨.hbm, 68, rfl⟩
abbrev main_v44 : Ref sig .tc := ⟨.hbm, 69, rfl⟩
abbrev main_c_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_c_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call0_cst : Ref sig .tc := ⟨.hbm, 93, rfl⟩
abbrev main_call0_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_call1_cst : Ref sig .tc := ⟨.hbm, 99, rfl⟩
abbrev main_call1_v0 : Ref sig .tc := ⟨.hbm, 100, rfl⟩
abbrev main_call1_cst_0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_cst_1 : Ref sig .tc := ⟨.hbm, 108, rfl⟩
abbrev main_call1_v7 : Ref sig .tc := ⟨.hbm, 109, rfl⟩
abbrev main_call1_v8 : Ref sig .tc := ⟨.hbm, 110, rfl⟩
abbrev main_call1_v9 : Ref sig .tc := ⟨.hbm, 111, rfl⟩
abbrev main_call1_v10 : Ref sig .tc := ⟨.hbm, 112, rfl⟩
abbrev main_v69 : Ref sig .tc := ⟨.hbm, 113, rfl⟩
abbrev main_v70 : Ref sig .tc := ⟨.hbm, 114, rfl⟩
abbrev main_call2_c : Ref sig .tc := ⟨.hbm, 115, rfl⟩
abbrev main_call2_v0 : Ref sig .tc := ⟨.hbm, 116, rfl⟩
abbrev main_call2_v1 : Ref sig .tc := ⟨.hbm, 117, rfl⟩
abbrev main_call2_c_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_c_1 : Ref sig .tc := ⟨.hbm, 123, rfl⟩
abbrev main_call2_c_2 : Ref sig .tc := ⟨.hbm, 124, rfl⟩
abbrev main_call2_v6 : Ref sig .tc := ⟨.hbm, 125, rfl⟩
abbrev main_call2_v7 : Ref sig .tc := ⟨.hbm, 126, rfl⟩
abbrev main_call2_v8 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_c_3 : Ref sig .tc := ⟨.hbm, 131, rfl⟩
abbrev main_call2_v12 : Ref sig .tc := ⟨.hbm, 132, rfl⟩
abbrev main_call2_v13 : Ref sig .tc := ⟨.hbm, 133, rfl⟩
abbrev main_call2_cst : Ref sig .tc := ⟨.hbm, 134, rfl⟩
abbrev main_call2_v14 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_c_11 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_cst : Ref sig .tc := ⟨.hbm, 144, rfl⟩
abbrev main_v78 : Ref sig .tc := ⟨.hbm, 145, rfl⟩
abbrev main_cst_12 : Ref sig .tc := ⟨.hbm, 146, rfl⟩
abbrev main_v79 : Ref sig .tc := ⟨.hbm, 147, rfl⟩
abbrev main_cst_13 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_call3_cst : Ref sig .tc := ⟨.hbm, 154, rfl⟩
abbrev main_call3_v0 : Ref sig .tc := ⟨.hbm, 155, rfl⟩
abbrev main_call3_cst_0 : Ref sig .tc := ⟨.hbm, 156, rfl⟩
abbrev main_call3_v1 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_call3_v5 : Ref sig .tc := ⟨.hbm, 161, rfl⟩
abbrev main_call3_v6 : Ref sig .tc := ⟨.hbm, 162, rfl⟩
abbrev main_call3_cst_1 : Ref sig .tc := ⟨.hbm, 163, rfl⟩
abbrev main_call3_v7 : Ref sig .tc := ⟨.hbm, 164, rfl⟩
abbrev main_call3_v8 : Ref sig .tc := ⟨.hbm, 165, rfl⟩
abbrev main_call3_v9 : Ref sig .tc := ⟨.hbm, 166, rfl⟩
abbrev main_call3_v10 : Ref sig .tc := ⟨.hbm, 167, rfl⟩
abbrev main_v85 : Ref sig .tc := ⟨.hbm, 168, rfl⟩
abbrev main_v86 : Ref sig .tc := ⟨.hbm, 169, rfl⟩
abbrev main_call4_c : Ref sig .tc := ⟨.hbm, 170, rfl⟩
abbrev main_call4_v0 : Ref sig .tc := ⟨.hbm, 171, rfl⟩
abbrev main_call4_v1 : Ref sig .tc := ⟨.hbm, 172, rfl⟩
abbrev main_call4_c_0 : Ref sig .tc := ⟨.hbm, 173, rfl⟩
abbrev main_call4_v2 : Ref sig .tc := ⟨.hbm, 174, rfl⟩
abbrev main_call4_v3 : Ref sig .tc := ⟨.hbm, 175, rfl⟩
abbrev main_call4_v4 : Ref sig .tc := ⟨.hbm, 176, rfl⟩
abbrev main_call4_v5 : Ref sig .tc := ⟨.hbm, 177, rfl⟩
abbrev main_call4_c_1 : Ref sig .tc := ⟨.hbm, 178, rfl⟩
abbrev main_call4_c_2 : Ref sig .tc := ⟨.hbm, 179, rfl⟩
abbrev main_call4_v6 : Ref sig .tc := ⟨.hbm, 180, rfl⟩
abbrev main_call4_v7 : Ref sig .tc := ⟨.hbm, 181, rfl⟩
abbrev main_call4_v8 : Ref sig .tc := ⟨.hbm, 182, rfl⟩
abbrev main_call4_v9 : Ref sig .tc := ⟨.hbm, 183, rfl⟩
abbrev main_call4_v10 : Ref sig .tc := ⟨.hbm, 184, rfl⟩
abbrev main_call4_v11 : Ref sig .tc := ⟨.hbm, 185, rfl⟩
abbrev main_call4_c_3 : Ref sig .tc := ⟨.hbm, 186, rfl⟩
abbrev main_call4_v12 : Ref sig .tc := ⟨.hbm, 187, rfl⟩
abbrev main_call4_v13 : Ref sig .tc := ⟨.hbm, 188, rfl⟩
abbrev main_call4_cst : Ref sig .tc := ⟨.hbm, 189, rfl⟩
abbrev main_call4_v14 : Ref sig .tc := ⟨.hbm, 190, rfl⟩
abbrev main_v87 : Ref sig .tc := ⟨.hbm, 191, rfl⟩
abbrev main_v88 : Ref sig .tc := ⟨.hbm, 192, rfl⟩
abbrev main_v89 : Ref sig .tc := ⟨.hbm, 193, rfl⟩
abbrev main_c_14 : Ref sig .tc := ⟨.hbm, 194, rfl⟩
abbrev main_v90 : Ref sig .tc := ⟨.hbm, 195, rfl⟩
abbrev main_v91 : Ref sig .tc := ⟨.hbm, 196, rfl⟩
abbrev main_v92 : Ref sig .tc := ⟨.hbm, 197, rfl⟩
abbrev main_v93 : Ref sig .tc := ⟨.hbm, 198, rfl⟩
abbrev main_cst_15 : Ref sig .tc := ⟨.hbm, 199, rfl⟩
abbrev main_v94 : Ref sig .tc := ⟨.hbm, 200, rfl⟩
abbrev main_cst_16 : Ref sig .tc := ⟨.hbm, 201, rfl⟩
abbrev main_v95 : Ref sig .tc := ⟨.hbm, 202, rfl⟩
abbrev main_cst_17 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_call5_cst : Ref sig .tc := ⟨.hbm, 209, rfl⟩
abbrev main_call5_v0 : Ref sig .tc := ⟨.hbm, 210, rfl⟩
abbrev main_call5_cst_0 : Ref sig .tc := ⟨.hbm, 211, rfl⟩
abbrev main_call5_v1 : Ref sig .tc := ⟨.hbm, 212, rfl⟩
abbrev main_call5_v2 : Ref sig .tc := ⟨.hbm, 213, rfl⟩
abbrev main_call5_v3 : Ref sig .tc := ⟨.hbm, 214, rfl⟩
abbrev main_call5_v4 : Ref sig .tc := ⟨.hbm, 215, rfl⟩
abbrev main_call5_v5 : Ref sig .tc := ⟨.hbm, 216, rfl⟩
abbrev main_call5_v6 : Ref sig .tc := ⟨.hbm, 217, rfl⟩
abbrev main_call5_cst_1 : Ref sig .tc := ⟨.hbm, 218, rfl⟩
abbrev main_call5_v7 : Ref sig .tc := ⟨.hbm, 219, rfl⟩
abbrev main_call5_v8 : Ref sig .tc := ⟨.hbm, 220, rfl⟩
abbrev main_call5_v9 : Ref sig .tc := ⟨.hbm, 221, rfl⟩
abbrev main_call5_v10 : Ref sig .tc := ⟨.hbm, 222, rfl⟩
abbrev main_v101 : Ref sig .tc := ⟨.hbm, 223, rfl⟩
abbrev main_v102 : Ref sig .tc := ⟨.hbm, 224, rfl⟩
abbrev main_call6_c : Ref sig .tc := ⟨.hbm, 225, rfl⟩
abbrev main_call6_v0 : Ref sig .tc := ⟨.hbm, 226, rfl⟩
abbrev main_call6_v1 : Ref sig .tc := ⟨.hbm, 227, rfl⟩
abbrev main_call6_c_0 : Ref sig .tc := ⟨.hbm, 228, rfl⟩
abbrev main_call6_v2 : Ref sig .tc := ⟨.hbm, 229, rfl⟩
abbrev main_call6_v3 : Ref sig .tc := ⟨.hbm, 230, rfl⟩
abbrev main_call6_v4 : Ref sig .tc := ⟨.hbm, 231, rfl⟩
abbrev main_call6_v5 : Ref sig .tc := ⟨.hbm, 232, rfl⟩
abbrev main_call6_c_1 : Ref sig .tc := ⟨.hbm, 233, rfl⟩
abbrev main_call6_c_2 : Ref sig .tc := ⟨.hbm, 234, rfl⟩
abbrev main_call6_v6 : Ref sig .tc := ⟨.hbm, 235, rfl⟩
abbrev main_call6_v7 : Ref sig .tc := ⟨.hbm, 236, rfl⟩
abbrev main_call6_v8 : Ref sig .tc := ⟨.hbm, 237, rfl⟩
abbrev main_call6_v9 : Ref sig .tc := ⟨.hbm, 238, rfl⟩
abbrev main_call6_v10 : Ref sig .tc := ⟨.hbm, 239, rfl⟩
abbrev main_call6_v11 : Ref sig .tc := ⟨.hbm, 240, rfl⟩
abbrev main_call6_c_3 : Ref sig .tc := ⟨.hbm, 241, rfl⟩
abbrev main_call6_v12 : Ref sig .tc := ⟨.hbm, 242, rfl⟩
abbrev main_call6_v13 : Ref sig .tc := ⟨.hbm, 243, rfl⟩
abbrev main_call6_cst : Ref sig .tc := ⟨.hbm, 244, rfl⟩
abbrev main_call6_v14 : Ref sig .tc := ⟨.hbm, 245, rfl⟩
abbrev main_v103 : Ref sig .tc := ⟨.hbm, 246, rfl⟩
abbrev main_v104 : Ref sig .tc := ⟨.hbm, 247, rfl⟩
abbrev main_v105 : Ref sig .tc := ⟨.hbm, 248, rfl⟩
abbrev main_c_18 : Ref sig .tc := ⟨.hbm, 249, rfl⟩
abbrev main_v106 : Ref sig .tc := ⟨.hbm, 250, rfl⟩
abbrev main_v107 : Ref sig .tc := ⟨.hbm, 251, rfl⟩
abbrev main_v108 : Ref sig .tc := ⟨.hbm, 252, rfl⟩
abbrev main_v109 : Ref sig .tc := ⟨.hbm, 253, rfl⟩
abbrev main_cst_19 : Ref sig .tc := ⟨.hbm, 254, rfl⟩
abbrev main_v110 : Ref sig .tc := ⟨.hbm, 255, rfl⟩
abbrev main_cst_20 : Ref sig .tc := ⟨.hbm, 256, rfl⟩
abbrev main_v111 : Ref sig .tc := ⟨.hbm, 257, rfl⟩
abbrev main_cst_21 : Ref sig .tc := ⟨.hbm, 258, rfl⟩
abbrev main_v112 : Ref sig .tc := ⟨.hbm, 259, rfl⟩
abbrev main_v113 : Ref sig .tc := ⟨.hbm, 260, rfl⟩
abbrev main_v114 : Ref sig .tc := ⟨.hbm, 261, rfl⟩
abbrev main_v115 : Ref sig .tc := ⟨.hbm, 262, rfl⟩
abbrev main_v116 : Ref sig .tc := ⟨.hbm, 263, rfl⟩
abbrev main_call7_cst : Ref sig .tc := ⟨.hbm, 264, rfl⟩
abbrev main_call7_v0 : Ref sig .tc := ⟨.hbm, 265, rfl⟩
abbrev main_call7_cst_0 : Ref sig .tc := ⟨.hbm, 266, rfl⟩
abbrev main_call7_v1 : Ref sig .tc := ⟨.hbm, 267, rfl⟩
abbrev main_call7_v2 : Ref sig .tc := ⟨.hbm, 268, rfl⟩
abbrev main_call7_v3 : Ref sig .tc := ⟨.hbm, 269, rfl⟩
abbrev main_call7_v4 : Ref sig .tc := ⟨.hbm, 270, rfl⟩
abbrev main_call7_v5 : Ref sig .tc := ⟨.hbm, 271, rfl⟩
abbrev main_call7_v6 : Ref sig .tc := ⟨.hbm, 272, rfl⟩
abbrev main_call7_cst_1 : Ref sig .tc := ⟨.hbm, 273, rfl⟩
abbrev main_call7_v7 : Ref sig .tc := ⟨.hbm, 274, rfl⟩
abbrev main_call7_v8 : Ref sig .tc := ⟨.hbm, 275, rfl⟩
abbrev main_call7_v9 : Ref sig .tc := ⟨.hbm, 276, rfl⟩
abbrev main_call7_v10 : Ref sig .tc := ⟨.hbm, 277, rfl⟩
abbrev main_v117 : Ref sig .tc := ⟨.hbm, 278, rfl⟩
abbrev main_v118 : Ref sig .tc := ⟨.hbm, 279, rfl⟩
abbrev main_call8_c : Ref sig .tc := ⟨.hbm, 280, rfl⟩
abbrev main_call8_v0 : Ref sig .tc := ⟨.hbm, 281, rfl⟩
abbrev main_call8_v1 : Ref sig .tc := ⟨.hbm, 282, rfl⟩
abbrev main_call8_c_0 : Ref sig .tc := ⟨.hbm, 283, rfl⟩
abbrev main_call8_v2 : Ref sig .tc := ⟨.hbm, 284, rfl⟩
abbrev main_call8_v3 : Ref sig .tc := ⟨.hbm, 285, rfl⟩
abbrev main_call8_v4 : Ref sig .tc := ⟨.hbm, 286, rfl⟩
abbrev main_call8_v5 : Ref sig .tc := ⟨.hbm, 287, rfl⟩
abbrev main_call8_c_1 : Ref sig .tc := ⟨.hbm, 288, rfl⟩
abbrev main_call8_c_2 : Ref sig .tc := ⟨.hbm, 289, rfl⟩
abbrev main_call8_v6 : Ref sig .tc := ⟨.hbm, 290, rfl⟩
abbrev main_call8_v7 : Ref sig .tc := ⟨.hbm, 291, rfl⟩
abbrev main_call8_v8 : Ref sig .tc := ⟨.hbm, 292, rfl⟩
abbrev main_call8_v9 : Ref sig .tc := ⟨.hbm, 293, rfl⟩
abbrev main_call8_v10 : Ref sig .tc := ⟨.hbm, 294, rfl⟩
abbrev main_call8_v11 : Ref sig .tc := ⟨.hbm, 295, rfl⟩
abbrev main_call8_c_3 : Ref sig .tc := ⟨.hbm, 296, rfl⟩
abbrev main_call8_v12 : Ref sig .tc := ⟨.hbm, 297, rfl⟩
abbrev main_call8_v13 : Ref sig .tc := ⟨.hbm, 298, rfl⟩
abbrev main_call8_cst : Ref sig .tc := ⟨.hbm, 299, rfl⟩
abbrev main_call8_v14 : Ref sig .tc := ⟨.hbm, 300, rfl⟩
abbrev main_v119 : Ref sig .tc := ⟨.hbm, 301, rfl⟩
abbrev main_v120 : Ref sig .tc := ⟨.hbm, 302, rfl⟩
abbrev main_v121 : Ref sig .tc := ⟨.hbm, 303, rfl⟩
abbrev main_c_22 : Ref sig .tc := ⟨.hbm, 304, rfl⟩
abbrev main_v122 : Ref sig .tc := ⟨.hbm, 305, rfl⟩
abbrev main_v123 : Ref sig .tc := ⟨.hbm, 306, rfl⟩
abbrev main_v124 : Ref sig .tc := ⟨.hbm, 307, rfl⟩
abbrev main_v125 : Ref sig .tc := ⟨.hbm, 308, rfl⟩
abbrev main_cst_23 : Ref sig .tc := ⟨.hbm, 309, rfl⟩
abbrev main_v126 : Ref sig .tc := ⟨.hbm, 310, rfl⟩
abbrev main_cst_24 : Ref sig .tc := ⟨.hbm, 311, rfl⟩
abbrev main_v127 : Ref sig .tc := ⟨.hbm, 312, rfl⟩
abbrev main_cst_25 : Ref sig .tc := ⟨.hbm, 313, rfl⟩
abbrev main_v128 : Ref sig .tc := ⟨.hbm, 314, rfl⟩
abbrev main_v129 : Ref sig .tc := ⟨.hbm, 315, rfl⟩
abbrev main_v130 : Ref sig .tc := ⟨.hbm, 316, rfl⟩
abbrev main_v131 : Ref sig .tc := ⟨.hbm, 317, rfl⟩
abbrev main_v132 : Ref sig .tc := ⟨.hbm, 318, rfl⟩
abbrev main_call9_cst : Ref sig .tc := ⟨.hbm, 319, rfl⟩
abbrev main_call9_v0 : Ref sig .tc := ⟨.hbm, 320, rfl⟩
abbrev main_call9_cst_0 : Ref sig .tc := ⟨.hbm, 321, rfl⟩
abbrev main_call9_v1 : Ref sig .tc := ⟨.hbm, 322, rfl⟩
abbrev main_call9_v2 : Ref sig .tc := ⟨.hbm, 323, rfl⟩
abbrev main_call9_v3 : Ref sig .tc := ⟨.hbm, 324, rfl⟩
abbrev main_call9_v4 : Ref sig .tc := ⟨.hbm, 325, rfl⟩
abbrev main_call9_v5 : Ref sig .tc := ⟨.hbm, 326, rfl⟩
abbrev main_call9_v6 : Ref sig .tc := ⟨.hbm, 327, rfl⟩
abbrev main_call9_cst_1 : Ref sig .tc := ⟨.hbm, 328, rfl⟩
abbrev main_call9_v7 : Ref sig .tc := ⟨.hbm, 329, rfl⟩
abbrev main_call9_v8 : Ref sig .tc := ⟨.hbm, 330, rfl⟩
abbrev main_call9_v9 : Ref sig .tc := ⟨.hbm, 331, rfl⟩
abbrev main_call9_v10 : Ref sig .tc := ⟨.hbm, 332, rfl⟩
abbrev main_v133 : Ref sig .tc := ⟨.hbm, 333, rfl⟩
abbrev main_v134 : Ref sig .tc := ⟨.hbm, 334, rfl⟩
abbrev main_call10_c : Ref sig .tc := ⟨.hbm, 335, rfl⟩
abbrev main_call10_v0 : Ref sig .tc := ⟨.hbm, 336, rfl⟩
abbrev main_call10_v1 : Ref sig .tc := ⟨.hbm, 337, rfl⟩
abbrev main_call10_c_0 : Ref sig .tc := ⟨.hbm, 338, rfl⟩
abbrev main_call10_v2 : Ref sig .tc := ⟨.hbm, 339, rfl⟩
abbrev main_call10_v3 : Ref sig .tc := ⟨.hbm, 340, rfl⟩
abbrev main_call10_v4 : Ref sig .tc := ⟨.hbm, 341, rfl⟩
abbrev main_call10_v5 : Ref sig .tc := ⟨.hbm, 342, rfl⟩
abbrev main_call10_c_1 : Ref sig .tc := ⟨.hbm, 343, rfl⟩
abbrev main_call10_c_2 : Ref sig .tc := ⟨.hbm, 344, rfl⟩
abbrev main_call10_v6 : Ref sig .tc := ⟨.hbm, 345, rfl⟩
abbrev main_call10_v7 : Ref sig .tc := ⟨.hbm, 346, rfl⟩
abbrev main_call10_v8 : Ref sig .tc := ⟨.hbm, 347, rfl⟩
abbrev main_call10_v9 : Ref sig .tc := ⟨.hbm, 348, rfl⟩
abbrev main_call10_v10 : Ref sig .tc := ⟨.hbm, 349, rfl⟩
abbrev main_call10_v11 : Ref sig .tc := ⟨.hbm, 350, rfl⟩
abbrev main_call10_c_3 : Ref sig .tc := ⟨.hbm, 351, rfl⟩
abbrev main_call10_v12 : Ref sig .tc := ⟨.hbm, 352, rfl⟩
abbrev main_call10_v13 : Ref sig .tc := ⟨.hbm, 353, rfl⟩
abbrev main_call10_cst : Ref sig .tc := ⟨.hbm, 354, rfl⟩
abbrev main_call10_v14 : Ref sig .tc := ⟨.hbm, 355, rfl⟩
abbrev main_v135 : Ref sig .tc := ⟨.hbm, 356, rfl⟩
abbrev main_v136 : Ref sig .tc := ⟨.hbm, 357, rfl⟩
abbrev main_v137 : Ref sig .tc := ⟨.hbm, 358, rfl⟩
abbrev main_c_26 : Ref sig .tc := ⟨.hbm, 359, rfl⟩
abbrev main_v138 : Ref sig .tc := ⟨.hbm, 360, rfl⟩
abbrev main_v139 : Ref sig .tc := ⟨.hbm, 361, rfl⟩
abbrev main_v140 : Ref sig .tc := ⟨.hbm, 362, rfl⟩
abbrev main_v141 : Ref sig .tc := ⟨.hbm, 363, rfl⟩
abbrev main_cst_27 : Ref sig .tc := ⟨.hbm, 364, rfl⟩
abbrev main_v142 : Ref sig .tc := ⟨.hbm, 365, rfl⟩
abbrev main_cst_28 : Ref sig .tc := ⟨.hbm, 366, rfl⟩
abbrev main_v143 : Ref sig .tc := ⟨.hbm, 367, rfl⟩
abbrev main_cst_29 : Ref sig .tc := ⟨.hbm, 368, rfl⟩
abbrev main_v144 : Ref sig .tc := ⟨.hbm, 369, rfl⟩
abbrev main_v145 : Ref sig .tc := ⟨.hbm, 370, rfl⟩
abbrev main_v146 : Ref sig .tc := ⟨.hbm, 371, rfl⟩
abbrev main_v147 : Ref sig .tc := ⟨.hbm, 372, rfl⟩
abbrev main_v148 : Ref sig .tc := ⟨.hbm, 373, rfl⟩
abbrev main_call11_cst : Ref sig .tc := ⟨.hbm, 374, rfl⟩
abbrev main_call11_v0 : Ref sig .tc := ⟨.hbm, 375, rfl⟩
abbrev main_call11_cst_0 : Ref sig .tc := ⟨.hbm, 376, rfl⟩
abbrev main_call11_v1 : Ref sig .tc := ⟨.hbm, 377, rfl⟩
abbrev main_call11_v2 : Ref sig .tc := ⟨.hbm, 378, rfl⟩
abbrev main_call11_v3 : Ref sig .tc := ⟨.hbm, 379, rfl⟩
abbrev main_call11_v4 : Ref sig .tc := ⟨.hbm, 380, rfl⟩
abbrev main_call11_v5 : Ref sig .tc := ⟨.hbm, 381, rfl⟩
abbrev main_call11_v6 : Ref sig .tc := ⟨.hbm, 382, rfl⟩
abbrev main_call11_cst_1 : Ref sig .tc := ⟨.hbm, 383, rfl⟩
abbrev main_call11_v7 : Ref sig .tc := ⟨.hbm, 384, rfl⟩
abbrev main_call11_v8 : Ref sig .tc := ⟨.hbm, 385, rfl⟩
abbrev main_call11_v9 : Ref sig .tc := ⟨.hbm, 386, rfl⟩
abbrev main_call11_v10 : Ref sig .tc := ⟨.hbm, 387, rfl⟩
abbrev main_v149 : Ref sig .tc := ⟨.hbm, 388, rfl⟩
abbrev main_v150 : Ref sig .tc := ⟨.hbm, 389, rfl⟩
abbrev main_call12_c : Ref sig .tc := ⟨.hbm, 390, rfl⟩
abbrev main_call12_v0 : Ref sig .tc := ⟨.hbm, 391, rfl⟩
abbrev main_call12_v1 : Ref sig .tc := ⟨.hbm, 392, rfl⟩
abbrev main_call12_c_0 : Ref sig .tc := ⟨.hbm, 393, rfl⟩
abbrev main_call12_v2 : Ref sig .tc := ⟨.hbm, 394, rfl⟩
abbrev main_call12_v3 : Ref sig .tc := ⟨.hbm, 395, rfl⟩
abbrev main_call12_v4 : Ref sig .tc := ⟨.hbm, 396, rfl⟩
abbrev main_call12_v5 : Ref sig .tc := ⟨.hbm, 397, rfl⟩
abbrev main_call12_c_1 : Ref sig .tc := ⟨.hbm, 398, rfl⟩
abbrev main_call12_c_2 : Ref sig .tc := ⟨.hbm, 399, rfl⟩
abbrev main_call12_v6 : Ref sig .tc := ⟨.hbm, 400, rfl⟩
abbrev main_call12_v7 : Ref sig .tc := ⟨.hbm, 401, rfl⟩
abbrev main_call12_v8 : Ref sig .tc := ⟨.hbm, 402, rfl⟩
abbrev main_call12_v9 : Ref sig .tc := ⟨.hbm, 403, rfl⟩
abbrev main_call12_v10 : Ref sig .tc := ⟨.hbm, 404, rfl⟩
abbrev main_call12_v11 : Ref sig .tc := ⟨.hbm, 405, rfl⟩
abbrev main_call12_c_3 : Ref sig .tc := ⟨.hbm, 406, rfl⟩
abbrev main_call12_v12 : Ref sig .tc := ⟨.hbm, 407, rfl⟩
abbrev main_call12_v13 : Ref sig .tc := ⟨.hbm, 408, rfl⟩
abbrev main_call12_cst : Ref sig .tc := ⟨.hbm, 409, rfl⟩
abbrev main_call12_v14 : Ref sig .tc := ⟨.hbm, 410, rfl⟩
abbrev main_v151 : Ref sig .tc := ⟨.hbm, 411, rfl⟩
abbrev main_v152 : Ref sig .tc := ⟨.hbm, 412, rfl⟩
abbrev main_v153 : Ref sig .tc := ⟨.hbm, 413, rfl⟩
abbrev main_c_30 : Ref sig .tc := ⟨.hbm, 414, rfl⟩
abbrev main_v154 : Ref sig .tc := ⟨.hbm, 415, rfl⟩
abbrev main_v155 : Ref sig .tc := ⟨.hbm, 416, rfl⟩
abbrev main_v156 : Ref sig .tc := ⟨.hbm, 417, rfl⟩
abbrev main_v157 : Ref sig .tc := ⟨.hbm, 418, rfl⟩
abbrev main_cst_31 : Ref sig .tc := ⟨.hbm, 419, rfl⟩
abbrev main_v158 : Ref sig .tc := ⟨.hbm, 420, rfl⟩
abbrev main_cst_32 : Ref sig .tc := ⟨.hbm, 421, rfl⟩
abbrev main_v159 : Ref sig .tc := ⟨.hbm, 422, rfl⟩
abbrev main_cst_33 : Ref sig .tc := ⟨.hbm, 423, rfl⟩
abbrev main_v160 : Ref sig .tc := ⟨.hbm, 424, rfl⟩
abbrev main_v161 : Ref sig .tc := ⟨.hbm, 425, rfl⟩
abbrev main_v162 : Ref sig .tc := ⟨.hbm, 426, rfl⟩
abbrev main_v163 : Ref sig .tc := ⟨.hbm, 427, rfl⟩
abbrev main_v164 : Ref sig .tc := ⟨.hbm, 428, rfl⟩
abbrev main_v165 : Ref sig .tc := ⟨.hbm, 429, rfl⟩
abbrev main_v166 : Ref sig .tc := ⟨.hbm, 430, rfl⟩
abbrev main_v167 : Ref sig .tc := ⟨.hbm, 431, rfl⟩
abbrev main_v168 : Ref sig .tc := ⟨.hbm, 432, rfl⟩
abbrev main_cst_34 : Ref sig .tc := ⟨.hbm, 433, rfl⟩
abbrev main_v169 : Ref sig .tc := ⟨.hbm, 434, rfl⟩

abbrev nD : Nat := 1
abbrev τ : Topo := Topo.v7x

variable {F : FTy → Type} [FloatOps F]
-- ==== Proof.Math.lean ====
/-
  The mathematics of the loss over the real numbers, and the steps from the extended reals to it.
-/
module

public import Idealize.ShloMosaic.PureOps.Ideal.Laws
public import Idealize.ShloMosaic.Lib.Pointwise.Reduce

@[expose] public section

noncomputable section

namespace Proof

open Idealize.ShloMosaic

/-- The negative log-likelihood of column `t` under the softmax of the row `l`. -/
def nll {V : ℕ} (l : Fin V → ℝ) (t : Fin V) : ℝ := Real.log (∑ v, Real.exp (l v)) - l t

/-- Whether the target `t` counts: target 0 does not. -/
def counts (t : ℕ) : ℝ := if t = 0 then 0 else 1

/-- The hidden row of a token with summed embedding `e`: one dense layer and a rectifier. -/
def hidden (W : Fin 768 → Fin 768 → ℝ) (bias : Fin 768 → ℝ) (e : Fin 768 → ℝ) (d : Fin 768) : ℝ :=
  max (∑ k, e k * W k d + bias d) 0

/-- The row of logits a head gives for a hidden row. -/
def logits {V : ℕ} (H : Fin 768 → Fin V → ℝ) (h : Fin 768 → ℝ) (v : Fin V) : ℝ := ∑ k, h k * H k v

/-- One field's term of the loss, over the tokens `T`: the mean of the negative log-likelihoods that count. -/
def fieldTerm {T : Type} [Fintype T] {V : ℕ} (H : Fin 768 → Fin V → ℝ) (h : T → Fin 768 → ℝ) (t : T → Fin V) : ℝ :=
  (∑ n, nll (logits H (h n)) (t n) * counts (t n).val) / max (∑ n, counts (t n).val) 1

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

/-- The maximum of a nonempty row of reals, folded from minus infinity, is a real. -/
theorem maxFold_real {V : ℕ} (hV : 0 < V) (l : Fin V → ℝ) :
    ∃ M : ℝ, (Finset.univ : Finset (Fin V)).fold max (⊥ : EReal) (fun v => (l v : EReal)) = M := by
  obtain ⟨v, -, hv⟩ := Finset.exists_mem_eq_sup (Finset.univ : Finset (Fin V)) ⟨⟨0, hV⟩, Finset.mem_univ _⟩
    (fun v => (l v : EReal))
  exact ⟨l v, hv⟩

theorem sumExp_pos {V : ℕ} (hV : 0 < V) (l : Fin V → ℝ) : 0 < ∑ v, Real.exp (l v) :=
  Finset.sum_pos (fun _ _ => Real.exp_pos _) ⟨⟨0, hV⟩, Finset.mem_univ _⟩

/-- The logarithm of the sum of exponentials of a row shifted by a real `M`. -/
theorem log_sumExp_shift {V : ℕ} (hV : 0 < V) (l : Fin V → ℝ) (M : ℝ) :
    Ideal.log (∑ v, Ideal.exp ((l v : EReal) - (M : EReal)))
      = ((Real.log (∑ v, Real.exp (l v)) - M : ℝ) : EReal) := by
  have h : (∑ v, Ideal.exp ((l v : EReal) - (M : EReal))) = ((∑ v, Real.exp (l v - M) : ℝ) : EReal) := by
    rw [coe_sum]
    exact Finset.sum_congr rfl fun v _ => by rw [← EReal.coe_sub, Ideal.exp_coe]
  have hs : ∑ v, Real.exp (l v - M) = (∑ v, Real.exp (l v)) * Real.exp (-M) := by
    rw [Finset.sum_mul]
    exact Finset.sum_congr rfl fun v _ => by rw [← Real.exp_add]; rfl
  have hp := sumExp_pos hV l
  rw [h, Ideal.log_coe, if_neg (not_le.mpr (sumExp_pos hV fun v => l v - M)), hs,
    Real.log_mul hp.ne' (Real.exp_pos _).ne', Real.log_exp]
  rfl

/-- The kernel's form of the negative log-likelihood: shift plus log of the shifted sum, less the logit picked by a mask. -/
theorem nll_kernel {V : ℕ} (l : Fin V → ℝ) (t : Fin V) (M : ℝ) :
    ((M : EReal) + Ideal.log (∑ v, Ideal.exp ((l v : EReal) - (M : EReal))))
      - (∑ v, if v = t then (l v : EReal) else 0) = ((nll l t : ℝ) : EReal) := by
  rw [log_sumExp_shift t.pos l M, Finset.sum_ite_eq' Finset.univ t, if_pos (Finset.mem_univ t), ← EReal.coe_add, ← EReal.coe_sub]
  unfold nll
  congr 1
  ring

/-- The reference's form: minus the shifted logit less the log of the shifted sum. -/
theorem nll_reference {V : ℕ} (l : Fin V → ℝ) (t : Fin V) (M : ℝ) :
    -(((l t : EReal) - (M : EReal)) - Ideal.log (0 + ∑ v, Ideal.exp ((l v : EReal) - (M : EReal))))
      = ((nll l t : ℝ) : EReal) := by
  rw [zero_add, log_sumExp_shift t.pos l M, ← EReal.coe_sub, ← EReal.coe_sub, ← EReal.coe_neg]
  unfold nll
  congr 1
  ring

/-- A quotient of a real by a real that is at least one. -/
theorem div_max (a b : ℝ) :
    Ideal.div (a : EReal) (max (b : EReal) 1) = ((a / max b 1 : ℝ) : EReal) := by
  have h1 : (max (b : EReal) 1) = ((max b 1 : ℝ) : EReal) := by rw [coe_max]; rfl
  have h2 : max b 1 ≠ 0 := (lt_of_lt_of_le one_pos (le_max_right b 1)).ne'
  rw [h1, Ideal.div_coe h2, ← EReal.coe_mul]
  congr 1
  ring

/-- The rows that a one-hot row picks out of the packed table times the weight are the summed embedding times the
    weight. -/
theorem onehot_dense (oh : Fin 48 → ℝ) (P : Fin 48 → Fin 768 → ℝ) (W : Fin 768 → Fin 768 → ℝ) (d : Fin 768) :
    ∑ c, oh c * (∑ k, P c k * W k d) = ∑ k, (∑ c, oh c * P c k) * W k d := by
  simp only [Finset.mul_sum, Finset.sum_mul]
  rw [Finset.sum_comm]
  exact Finset.sum_congr rfl fun k _ => Finset.sum_congr rfl fun c _ => by ring

end Proof

end
-- ==== Proof.Words.lean ====
/-
  Words that hold small naturals: comparing them, and turning a comparison into a float.
-/
module

public import proofs.«01_k».proof.Proof.Math
public import Idealize.ShloMosaic.Lib.Pointwise
public import Idealize.ShloMosaic.Lib.WordCmp

@[expose] public section

namespace Proof

open Idealize.ShloMosaic

theorem ofNat_eq_iff {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

theorem cmpi_eq_word {a b : ℕ} (ha : a < 2 ^ 32) (hb : b < 2 ^ 32) :
    IntOp.cmpi .eq (BitVec.ofNat 32 a) (BitVec.ofNat 32 b) = if a = b then 1#1 else 0#1 := by
  rw [WordCmp.cmpi_eq_ofNat ha hb]
  by_cases h : a = b
  · simp [h]
  · simp [h]

theorem cmpi_ne_word {a b : ℕ} (ha : a < 2 ^ 32) (hb : b < 2 ^ 32) :
    IntOp.cmpi .ne (BitVec.ofNat 32 a) (BitVec.ofNat 32 b) = if a = b then 0#1 else 1#1 := by
  rw [WordCmp.cmpi_ne_ofNat ha hb]
  by_cases h : a = b
  · simp [h]
  · simp [h]

theorem select_ite {α : Type} (p : Prop) [Decidable p] (x y : α) :
    Scalar.select (if p then 1#1 else 0#1) x y = if p then x else y := by
  by_cases h : p <;> simp [h, Scalar.select]

theorem sitofp_zero : (FloatOps.sitofp FTy.f32 0#32 : Ideal .f32) = ((0 : ℝ) : EReal) :=
  congrArg (fun z : ℤ => ((z : ℝ) : EReal)) (by decide : (0#32).toInt = 0) |>.trans (by simp)
theorem sitofp_one : (FloatOps.sitofp FTy.f32 1#32 : Ideal .f32) = ((1 : ℝ) : EReal) :=
  congrArg (fun z : ℤ => ((z : ℝ) : EReal)) (by decide : (1#32).toInt = 1) |>.trans (by simp)
theorem uitofp_zero : (FloatOps.uitofp FTy.f32 0#1 : Ideal .f32) = ((0 : ℝ) : EReal) :=
  congrArg (fun z : ℕ => ((z : ℝ) : EReal)) (by decide : (0#1).toNat = 0) |>.trans (by simp)
theorem uitofp_one : (FloatOps.uitofp FTy.f32 1#1 : Ideal .f32) = ((1 : ℝ) : EReal) :=
  congrArg (fun z : ℕ => ((z : ℝ) : EReal)) (by decide : (1#1).toNat = 1) |>.trans (by simp)

/-- A one-bit word widened to 32 bits and read as a signed integer. -/
theorem sitofp_bit (p : Prop) [Decidable p] :
    (FloatOps.sitofp FTy.f32 (BitVec.setWidth 32 (if p then 1#1 else 0#1)) : Ideal .f32) = (((if p then 1 else 0 : ℝ)) : EReal) := by
  by_cases h : p
  · rw [if_pos h, if_pos h]; exact sitofp_one
  · rw [if_neg h, if_neg h]; exact sitofp_zero

theorem sitofp_bit_not (p : Prop) [Decidable p] :
    (FloatOps.sitofp FTy.f32 (BitVec.setWidth 32 (if p then 0#1 else 1#1)) : Ideal .f32) = (((if p then 0 else 1 : ℝ)) : EReal) := by
  by_cases h : p
  · rw [if_pos h, if_pos h]; exact sitofp_zero
  · rw [if_neg h, if_neg h]; exact sitofp_one

/-- A one-bit word read as an unsigned integer. -/
theorem uitofp_bit_not (p : Prop) [Decidable p] :
    (FloatOps.uitofp FTy.f32 (if p then 0#1 else 1#1) : Ideal .f32) = (((if p then 0 else 1 : ℝ)) : EReal) := by
  by_cases h : p
  · rw [if_pos h, if_pos h]; exact uitofp_zero
  · rw [if_neg h, if_neg h]; exact uitofp_one

end Proof
-- ==== Proof.KernelField.lean ====
/-
  One field's share of the kernel's block, for any number `V` of columns: the log of the sum of exponentials, the logit
  at the target, and whether the target counts.
-/
module

public import proofs.«01_k».proof.Proof.Words
public import Idealize.ShloMosaic.Lib.Pointwise
public import Idealize.ShloMosaic.Lib.ValueIdx

@[expose] public section

noncomputable section

namespace Proof

open Idealize.ShloMosaic

abbrev Tall (V : ℕ) : Shape := ⟨2, ![1024, V]⟩
abbrev Flat : Shape := ⟨1, ![1024]⟩

section Field
variable {V : ℕ} (hr : (Tall V).Reduces [1] Flat) (hc : Flat.ShapeCasts (Tall 1)) (hb : (Tall 1).Broadcasts (Tall V))

/-- The log of the sum of exponentials of each row. -/
def lseCol (l : FVec Ideal (Tall V) .f32) : FVec Ideal (Tall 1) .f32 :=
  addf (shapeCast (Tall 1) (multiReduction .maximumf [1] Flat l 0xFF800000#32 hr (.inl rfl) rfl) hc)
    (log (shapeCast (Tall 1) (multiReduction .add [1] Flat (exp (subf l (broadcastTo (Tall V)
      (shapeCast (Tall 1) (multiReduction .maximumf [1] Flat l 0xFF800000#32 hr (.inl rfl) rfl) hc) hb)))
        0x00000000#32 hr (.inl rfl) rfl) hc))

/-- The entry of each row at the target. -/
def pickCol (hi : (Tall V).Iotas .tc 32 [1]) (l : FVec Ideal (Tall V) .f32) (t : IVec (Tall 1) 32) :
    FVec Ideal (Tall 1) .f32 :=
  shapeCast (Tall 1) (multiReduction .add [1] Flat
    (select (cmpi .eq (iota .tc (Tall V) 32 [1] hi) (broadcastTo (Tall V) t hb)) l
      (broadcast (Tall V) (Scalar.ofBits .f32 0x00000000#32))) 0x00000000#32 hr (.inl rfl) rfl) hc

/-- One where the target is not zero, zero elsewhere. -/
def countCol (t : IVec (Tall 1) 32) : FVec Ideal (Tall 1) .f32 :=
  sitofp .f32 (extui 32 (cmpi .ne t (broadcast (Tall 1) 0#32)) (by decide))

theorem ofBits_neg_inf : Ideal.ofBits FTy.f32 0xFF800000#32 = ⊥ := by simp [Ideal.ofBits, Ideal.ieee]

theorem lseCol_apply (hV : 0 < V) (l : FVec Ideal (Tall V) .f32) (r : Fin 1024) (a : Fin V → ℝ)
    (hl : ∀ v, l (ix2 r v) = (a v : EReal)) :
    ∃ M : ℝ, lseCol hr hc hb l (ix2 r 0)
      = (M : EReal) + Ideal.log (∑ v, Ideal.exp ((a v : EReal) - (M : EReal))) := by
  obtain ⟨M, hM⟩ := maxFold_real hV a
  refine ⟨M, ?_⟩
  unfold lseCol
  pointwise
  simp only [hl]
  have h := ofBits_neg_inf
  simp only [h, hM]

theorem pickCol_apply (hV : V < 2 ^ 32) (hi : (Tall V).Iotas .tc 32 [1]) (l : FVec Ideal (Tall V) .f32) (t : IVec (Tall 1) 32)
    (r : Fin 1024) (a : Fin V → ℝ) (k : Fin V) (hl : ∀ v, l (ix2 r v) = (a v : EReal))
    (ht : t (ix2 r 0) = BitVec.ofNat 32 k.val) :
    pickCol hr hc hb hi l t (ix2 r 0) = ∑ v, if v = k then (a v : EReal) else 0 := by
  unfold pickCol
  pointwise
  simp only [hl, ht]
  refine Finset.sum_congr rfl fun v _ => ?_
  rw [cmpi_eq_word (v.isLt.trans hV) (k.isLt.trans hV), select_ite]
  simp only [Fin.ext_iff]

theorem countCol_apply (t : IVec (Tall 1) 32) (r : Fin 1024) (k : ℕ) (hk : k < 2 ^ 32)
    (ht : t (ix2 r 0) = BitVec.ofNat 32 k) : countCol t (ix2 r 0) = ((counts k : ℝ) : EReal) := by
  unfold countCol
  pointwise
  rw [ht, show (0#32) = BitVec.ofNat 32 0 from rfl, cmpi_ne_word hk (by decide), sitofp_bit_not]
  rfl

/-- The field's weighted negative log-likelihood of each row, as the kernel computes it. -/
def nllCol (hi : (Tall V).Iotas .tc 32 [1]) (l : FVec Ideal (Tall V) .f32) (t : IVec (Tall 1) 32) :
    FVec Ideal (Tall 1) .f32 :=
  mulf (subf (lseCol hr hc hb l) (pickCol hr hc hb hi l t)) (countCol t)

theorem nllCol_apply (hV : V < 2 ^ 32) (hi : (Tall V).Iotas .tc 32 [1]) (l : FVec Ideal (Tall V) .f32) (t : IVec (Tall 1) 32)
    (r : Fin 1024) (a : Fin V → ℝ) (k : Fin V) (hl : ∀ v, l (ix2 r v) = (a v : EReal))
    (ht : t (ix2 r 0) = BitVec.ofNat 32 k.val) :
    nllCol hr hc hb hi l t (ix2 r 0) = ((nll a k * counts k.val : ℝ) : EReal) := by
  obtain ⟨M, hM⟩ := lseCol_apply hr hc hb k.pos l r a hl
  have hp := pickCol_apply hr hc hb hV hi l t r a k hl ht
  have hn := countCol_apply t r k.val (k.isLt.trans hV) ht
  show (lseCol hr hc hb l (ix2 r 0) - pickCol hr hc hb hi l t (ix2 r 0)) * countCol t (ix2 r 0) = _
  rw [hM, hp, hn, nll_kernel, ← EReal.coe_mul]

end Field

end Proof

end
-- ==== Proof.KernelBlock.lean ====
/-
  The block the kernel stores at one grid point: row 0 holds the six fields' sums of weighted negative
  log-likelihoods, row 1 the six fields' counts.
-/
module

public import proofs.«01_k».proof.Proof.KernelField
public import proofs.«01_k».proof.Proof.Gen.KernelIdeal.Skeleton

@[expose] public section

set_option maxRecDepth 16384

noncomputable section

namespace Proof

open Idealize.ShloMosaic Cert.KernelIdeal Cert.KernelIdeal.Gen

/-- Column `f` of the targets. -/
def tgtCol (f : ℕ) (h : S1024x6.Slices ![0, f] S1024x1) (t : IVec S1024x6 32) : IVec S1024x1 32 :=
  extractStridedSlice S1024x1 ![0, f] t h

/-- The columns of the logits from `o` on that belong to one field. -/
def slab (V o : ℕ) (h : S1024x896.Slices ![0, o] (Tall V)) (l : FVec Ideal S1024x896 .f32) : FVec Ideal (Tall V) .f32 :=
  extractStridedSlice (Tall V) ![0, o] l h

/-- Six columns and their counts laid out as the stored block: the column sums in rows 0 and 1, zeros elsewhere. -/
def pack (n k : Fin 6 → FVec Ideal S1024x1 .f32) : FVec Ideal S1x8x128 .f32 :=
  shapeCast S1x8x128 (concatenate S8x128 1
    [⟨S8x8, concatenate S8x8 0
      [⟨S2x8, concatenate S2x8 0
        [⟨S1x8, shapeCast S1x8 (multiReduction .add [0] S8 (concatenate S1024x8 1
            [⟨S1024x1, n 0⟩, ⟨S1024x1, n 1⟩, ⟨S1024x1, n 2⟩, ⟨S1024x1, n 3⟩, ⟨S1024x1, n 4⟩, ⟨S1024x1, n 5⟩,
              ⟨S1024x2, broadcast S1024x2 (Scalar.ofBits .f32 0x00000000#32)⟩]
            concatenates_S1024x1_S1024x1_S1024x1_S1024x1_S1024x1_S1024x1_S1024x2_S1024x8_d1)
            0x00000000#32 reduces_S1024x8_S8 (.inl rfl) rfl) shapeCasts_S8_S1x8⟩,
         ⟨S1x8, shapeCast S1x8 (multiReduction .add [0] S8 (concatenate S1024x8 1
            [⟨S1024x1, k 0⟩, ⟨S1024x1, k 1⟩, ⟨S1024x1, k 2⟩, ⟨S1024x1, k 3⟩, ⟨S1024x1, k 4⟩, ⟨S1024x1, k 5⟩,
              ⟨S1024x2, broadcast S1024x2 (Scalar.ofBits .f32 0x00000000#32)⟩]
            concatenates_S1024x1_S1024x1_S1024x1_S1024x1_S1024x1_S1024x1_S1024x2_S1024x8_d1)
            0x00000000#32 reduces_S1024x8_S8 (.inl rfl) rfl) shapeCasts_S8_S1x8⟩]
        concatenates_S1x8_S1x8_S2x8_d0⟩,
       ⟨S6x8, broadcast S6x8 (Scalar.sitofp .f32 0#32)⟩] concatenates_S2x8_S6x8_S8x8_d0⟩,
     ⟨S8x120, broadcast S8x120 (Scalar.sitofp .f32 0#32)⟩] concatenates_S8x8_S8x120_S8x128_d1) shapeCasts_S8x128_S1x8x128

theorem pack_row0 (n k : Fin 6 → FVec Ideal S1024x1 .f32) (f : Fin 6) :
    pack n k (ix3 0 0 ⟨f.val, by omega⟩) = ∑ r : Fin 1024, n f (ix2 r 0) := by
  unfold pack
  fin_cases f <;> pointwise

theorem pack_row1 (n k : Fin 6 → FVec Ideal S1024x1 .f32) (f : Fin 6) :
    pack n k (ix3 0 1 ⟨f.val, by omega⟩) = ∑ r : Fin 1024, k f (ix2 r 0) := by
  unfold pack
  fin_cases f <;> pointwise

/-- The six fields' columns of weighted negative log-likelihoods of a block, from its logits and its targets. -/
def nllCols (l : FVec Ideal S1024x896 .f32) (t : IVec S1024x6 32) : Fin 6 → FVec Ideal S1024x1 .f32 :=
  ![nllCol reduces_S1024x6_S1024 shapeCasts_S1024_S1024x1 broadcasts_S1024x1_S1024x6 iota_S1024x6_d1_w32
      (slab 6 0 slices_S1024x896_o0_0_S1024x6 l) (tgtCol 0 slices_S1024x6_o0_0_S1024x1 t),
    nllCol reduces_S1024x257_S1024 shapeCasts_S1024_S1024x1 broadcasts_S1024x1_S1024x257 iota_S1024x257_d1_w32
      (slab 257 6 slices_S1024x896_o0_6_S1024x257 l) (tgtCol 1 slices_S1024x6_o0_1_S1024x1 t),
    nllCol reduces_S1024x129_S1024 shapeCasts_S1024_S1024x1 broadcasts_S1024x1_S1024x129 iota_S1024x129_d1_w32
      (slab 129 263 slices_S1024x896_o0_263_S1024x129 l) (tgtCol 2 slices_S1024x6_o0_2_S1024x1 t),
    nllCol reduces_S1024x129_S1024 shapeCasts_S1024_S1024x1 broadcasts_S1024x1_S1024x129 iota_S1024x129_d1_w32
      (slab 129 392 slices_S1024x896_o0_392_S1024x129 l) (tgtCol 3 slices_S1024x6_o0_3_S1024x1 t),
    nllCol reduces_S1024x257_S1024 shapeCasts_S1024_S1024x1 broadcasts_S1024x1_S1024x257 iota_S1024x257_d1_w32
      (slab 257 521 slices_S1024x896_o0_521_S1024x257 l) (tgtCol 4 slices_S1024x6_o0_4_S1024x1 t),
    nllCol reduces_S1024x65_S1024 shapeCasts_S1024_S1024x1 broadcasts_S1024x1_S1024x65 iota_S1024x65_d1_w32
      (slab 65 778 slices_S1024x896_o0_778_S1024x65 l) (tgtCol 5 slices_S1024x6_o0_5_S1024x1 t)]

/-- The six fields' columns of ones and zeros: which targets count. -/
def countCols (t : IVec S1024x6 32) : Fin 6 → FVec Ideal S1024x1 .f32 :=
  ![countCol (tgtCol 0 slices_S1024x6_o0_0_S1024x1 t), countCol (tgtCol 1 slices_S1024x6_o0_1_S1024x1 t),
    countCol (tgtCol 2 slices_S1024x6_o0_2_S1024x1 t), countCol (tgtCol 3 slices_S1024x6_o0_3_S1024x1 t),
    countCol (tgtCol 4 slices_S1024x6_o0_4_S1024x1 t), countCol (tgtCol 5 slices_S1024x6_o0_5_S1024x1 t)]

/-- The logits of a block, from its inputs, the table's product, the bias row and the packed head. -/
def blockLogits (x : IVec S1x1024x6 32) (e : FVec Ideal S48x768 .f32) (b : FVec Ideal S1x768 .f32)
    (h : FVec Ideal S768x896 .f32) : FVec Ideal S1024x896 .f32 :=
  k0_pay6 (F := Ideal) (k0_pay2 (F := Ideal) x) (iota .tc S1024x48 32 [1] iota_S1024x48_d1_w32) (k0_pay4 (F := Ideal) x)
    (k0_pay5 (F := Ideal) x) e b h

/-- The stored block. -/
def blockOut (l : FVec Ideal S1024x896 .f32) (t : IVec S1024x6 32) : FVec Ideal S1x8x128 .f32 :=
  pack (nllCols l t) (countCols t)

theorem payload_eq (v4 v6 : IVec S1024x6 32) (v7 : IVec S1024x48 32) (v40 : FVec Ideal S1024x48 .f32)
    (v43 : IVec S1024x1 32) (v57 : FVec Ideal S48x768 .f32) (v59 : FVec Ideal S1x768 .f32) (v65 : FVec Ideal S768x896 .f32)
    (l : FVec Ideal S1024x896 .f32) (hl : k0_pay6 (F := Ideal) v4 v7 v40 v43 v57 v59 v65 = l) :
    k0_pay27 (F := Ideal) v6 l (k0_pay11 (F := Ideal) (k0_pay10 v6))
      (k0_pay12 (F := Ideal) (k0_pay8 (F := Ideal) v4 v7 v40 v43 v57 v59 v65)
        (k0_pay9 (F := Ideal) v4 v6 v7 v40 v43 v57 v59 v65) (k0_pay10 v6))
      (k0_pay13 (F := Ideal) v6) (k0_pay14 (F := Ideal) v6 l)
      (k0_pay19 (F := Ideal) (k0_pay18 v6))
      (k0_pay20 (F := Ideal) (k0_pay16 (F := Ideal) l) (k0_pay17 (F := Ideal) v6 l) (k0_pay18 v6))
      (k0_pay21 (F := Ideal) v6) (k0_pay22 (F := Ideal) v6 l)
      (k0_pay24 (F := Ideal) l) (k0_pay25 (F := Ideal) v6 l) (k0_pay26 v6)
      = blockOut l v6 := by
  subst hl
  rfl

end Proof

end
-- ==== Proof.KernelRead.lean ====
/-
  What the body leaves at a grid point: the stored block, and the table's product kept between points.
-/
module

public import proofs.«01_k».proof.Proof.KernelBlock
public import proofs.«01_k».proof.Proof.Gen.KernelIdeal.Frame
public import Idealize.ShloMosaic.Lib.Pipeline.Value

@[expose] public section

set_option maxRecDepth 16384

noncomputable section

namespace Proof

open Idealize.ShloMosaic Idealize.ShloMosaic.TcCoe Cert.KernelIdeal Cert.KernelIdeal.Gen Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- Row 0 of the bias block. -/
def biasRow (b : FVec Ideal S8x768 .f32) : FVec Ideal S1x768 .f32 := fun j => b (ix2 0 (j 1))

theorem ld_biasRow (b : FVec Ideal S8x768 .f32) :
    View.ld (Val := Elt Ideal) (e' := .f32) b (Rect.unit (s := S8x768) ![0, 0] S1x768.size inb_S8x768_S1x768_0_0) = biasRow b := by
  funext j
  refine congrArg b (funext fun a => Fin.ext ?_)
  match a with
  | ⟨0, _⟩ => show 0 + 1 * (j 0).val = 0; have h : (j 0).val < 1 := (j 0).isLt; omega
  | ⟨1, _⟩ => show 0 + 1 * (j 1).val = (j 1).val; omega

theorem sout_A (c : Dev nD) (i : grid0.Coords) (a1 : Memref sig .tc .vmem S1x1024x6 .i32) (h1 : a1.IsWhole)
    (a2 : Memref sig .tc .vmem S1x1024x6 .i32) (h2 : a2.IsWhole) (a3 : Memref sig .tc .vmem S48x768 .f32) (h3 : a3.IsWhole)
    (a4 : Memref sig .tc .vmem S768x768 .f32) (h4 : a4.IsWhole) (a5 : Memref sig .tc .vmem S8x768 .f32) (h5 : a5.IsWhole)
    (a6 : Memref sig .tc .vmem S768x896 .f32) (h6 : a6.IsWhole) (a7 : Memref sig .tc .vmem S1x8x128 .f32) (h7 : a7.IsWhole)
    (a8 : Memref sig .tc .vmem S48x768 .f32) (h8 : a8.IsWhole) (hc : cond0_0 i)
    (x0 x1 : Vec Ideal S1x1024x6 .i32) (x2 : Vec Ideal S48x768 .f32) (x3 : Vec Ideal S768x768 .f32)
    (x4 : Vec Ideal S8x768 .f32) (x5 : Vec Ideal S768x896 .f32) :
    sout0_A_0 c i a1 h1 a2 h2 a3 h3 a4 h4 a5 h5 a6 h6 a7 h7 a8 h8 hc x0 x1 x2 x3 x4 x5 = k0_pay1 (F := Ideal) x2 x3 := by
  unfold sout0_A_0
  rw [View.read_writes_eq_canon _ _ _ (scover0_A_0 c i a1 h1 a2 h2 a3 h3 a4 h4 a5 h5 a6 h6 a7 h7 a8 h8 hc x0 x1 x2 x3 x4 x5)]
  unfold kernelRun0_A
  dsimp only
  sl_unfold_words
  rw [View.canon_unit_zero hz2]
  simp only [View.readAt_eq_ld, h3.read_unread, h4.read_unread, View.ld_unit_zero (S := S48x768) hz2, View.ld_unit_zero (S := S768x768) hz2]

theorem out_A (c : Dev nD) (i : grid0.Coords) (a1 : Memref sig .tc .vmem S1x1024x6 .i32) (h1 : a1.IsWhole)
    (a2 : Memref sig .tc .vmem S1x1024x6 .i32) (h2 : a2.IsWhole) (a3 : Memref sig .tc .vmem S48x768 .f32) (h3 : a3.IsWhole)
    (a4 : Memref sig .tc .vmem S768x768 .f32) (h4 : a4.IsWhole) (a5 : Memref sig .tc .vmem S8x768 .f32) (h5 : a5.IsWhole)
    (a6 : Memref sig .tc .vmem S768x896 .f32) (h6 : a6.IsWhole) (a7 : Memref sig .tc .vmem S1x8x128 .f32) (h7 : a7.IsWhole)
    (a8 : Memref sig .tc .vmem S48x768 .f32) (h8 : a8.IsWhole) (hc : cond0_0 i)
    (x0 x1 : Vec Ideal S1x1024x6 .i32) (x2 : Vec Ideal S48x768 .f32) (x3 : Vec Ideal S768x768 .f32)
    (x4 : Vec Ideal S8x768 .f32) (x5 : Vec Ideal S768x896 .f32) :
    out0_A_6 c i a1 h1 a2 h2 a3 h3 a4 h4 a5 h5 a6 h6 a7 h7 a8 h8 hc x0 x1 x2 x3 x4 x5
      = blockOut (blockLogits x0 (k0_pay1 (F := Ideal) x2 x3) (biasRow x4) x5) (k0_pay3 (F := Ideal) x1) := by
  unfold out0_A_6
  rw [View.read_writes_eq_canon _ _ _ (cover0_A_6 c i a1 h1 a2 h2 a3 h3 a4 h4 a5 h5 a6 h6 a7 h7 a8 h8 hc x0 x1 x2 x3 x4 x5)]
  unfold kernelRun0_A
  dsimp only
  sl_unfold_words
  rw [View.canon_unit_zero hz3]
  simp only [View.readAt_eq_ld, h1.read_unread, h2.read_unread, h3.read_unread, h4.read_unread, h5.read_unread, h6.read_unread,
    View.ld_unit_zero (S := S48x768) hz2, View.ld_unit_zero (S := S768x768) hz2, View.ld_unit_zero (S := S768x896) hz2,
    View.ld_unit_zero (S := S1x1024x6) hz3]
  rw [View.readCov_unit_zero (S := S48x768) _ hz2, ld_biasRow]
  exact payload_eq _ _ _ _ _ _ _ _ _ rfl

theorem out_B (c : Dev nD) (i : grid0.Coords) (a1 : Memref sig .tc .vmem S1x1024x6 .i32) (h1 : a1.IsWhole)
    (a2 : Memref sig .tc .vmem S1x1024x6 .i32) (h2 : a2.IsWhole) (a3 : Memref sig .tc .vmem S48x768 .f32) (h3 : a3.IsWhole)
    (a4 : Memref sig .tc .vmem S768x768 .f32) (h4 : a4.IsWhole) (a5 : Memref sig .tc .vmem S8x768 .f32) (h5 : a5.IsWhole)
    (a6 : Memref sig .tc .vmem S768x896 .f32) (h6 : a6.IsWhole) (a7 : Memref sig .tc .vmem S1x8x128 .f32) (h7 : a7.IsWhole)
    (a8 : Memref sig .tc .vmem S48x768 .f32) (h8 : a8.IsWhole) (hc : ¬cond0_0 i)
    (x0 x1 : Vec Ideal S1x1024x6 .i32) (x2 : Vec Ideal S48x768 .f32) (x3 : Vec Ideal S768x768 .f32)
    (x4 : Vec Ideal S8x768 .f32) (x5 : Vec Ideal S768x896 .f32) (xs : Vec Ideal S48x768 .f32) :
    out0_B_6 c i a1 h1 a2 h2 a3 h3 a4 h4 a5 h5 a6 h6 a7 h7 a8 h8 hc x0 x1 x2 x3 x4 x5 xs
      = blockOut (blockLogits x0 xs (biasRow x4) x5) (k0_pay3 (F := Ideal) x1) := by
  unfold out0_B_6
  rw [View.read_writes_eq_canon _ _ _ (cover0_B_6 c i a1 h1 a2 h2 a3 h3 a4 h4 a5 h5 a6 h6 a7 h7 a8 h8 hc x0 x1 x2 x3 x4 x5 xs)]
  unfold kernelRun0_B
  dsimp only
  sl_unfold_words
  rw [View.canon_unit_zero hz3]
  simp only [View.readAt_eq_ld, h1.read_unread, h2.read_unread, h5.read_unread, h6.read_unread, h8.read_unread,
    View.ld_unit_zero (S := S48x768) hz2, View.ld_unit_zero (S := S768x896) hz2, View.ld_unit_zero (S := S1x1024x6) hz3]
  rw [ld_biasRow]
  exact payload_eq _ _ _ _ _ _ _ _ _ rfl

end Proof

end
-- ==== Proof.KernelLogits.lean ====
/-
  The logits of a block, over the reals.
-/
module

public import proofs.«01_k».proof.Proof.KernelBlock

@[expose] public section

set_option maxRecDepth 16384

noncomputable section

namespace Proof

open Idealize.ShloMosaic Cert.KernelIdeal Cert.KernelIdeal.Gen

/-- The one-hot row of a token with inputs `x`, over the packed table's rows. -/
def onehot (x : Fin 6 → ℕ) (c : Fin 48) : ℝ := ∑ f : Fin 6, if c.val = x f + 6 * f.val then 1 else 0

/-- A sum of words for small naturals, compared with a column's word and turned into a float. -/
theorem match_word (c x o : ℕ) (hc : c < 48) (hx : x < 6) (ho : o < 36) :
    (FloatOps.sitofp FTy.f32 (BitVec.setWidth 32 (IntOp.cmpi .eq (BitVec.ofNat 32 c)
      (IntOp.addi (BitVec.ofNat 32 x) (BitVec.ofNat 32 o)))) : Ideal .f32)
      = (((if c = x + o then 1 else 0 : ℝ)) : EReal) := by
  have h : IntOp.addi (BitVec.ofNat 32 x) (BitVec.ofNat 32 o) = BitVec.ofNat 32 (x + o) := (BitVec.ofNat_add x o).symm
  rw [h, cmpi_eq_word (by omega) (by omega), sitofp_bit]

theorem pay2_apply (x : IVec S1x1024x6 32) (r : Fin 1024) (f : Fin 6) :
    k0_pay2 (F := Ideal) x (ix2 r f) = x (ix3 0 r f) := by
  unfold k0_pay2
  pointwise

theorem pay3_apply (x : IVec S1x1024x6 32) (r : Fin 1024) (f : Fin 6) :
    k0_pay3 (F := Ideal) x (ix2 r f) = x (ix3 0 r f) := by
  unfold k0_pay3
  pointwise

theorem blockLogits_apply (x : IVec S1x1024x6 32) (e : FVec Ideal S48x768 .f32) (b : FVec Ideal S1x768 .f32)
    (h : FVec Ideal S768x896 .f32) (r : Fin 1024) (v : Fin 896) (X : Fin 6 → ℕ)
    (hx : ∀ f, x (ix3 0 r f) = BitVec.ofNat 32 (X f)) (hX : ∀ f, X f < 6) :
    blockLogits x e b h (ix2 r v)
      = ∑ d : Fin 768, max ((∑ c : Fin 48, ((onehot X c : ℝ) : EReal) * e (ix2 c d)) + b (ix2 0 d)) 0 * h (ix2 d v) := by
  unfold blockLogits k0_pay6 k0_pay2 k0_pay4 k0_pay5
  pointwise
  refine Finset.sum_congr rfl fun d _ => ?_
  congr 3
  refine Finset.sum_congr rfl fun c _ => ?_
  congr 1
  have h : ∀ f : Fin 6, (FloatOps.sitofp FTy.f32 (BitVec.setWidth 32 (IntOp.cmpi .eq (BitVec.ofNat 32 c.val)
      (IntOp.addi (x (ix3 0 r f)) (BitVec.ofNat 32 (6 * f.val))))) : Ideal .f32)
      = (((if c.val = X f + 6 * f.val then 1 else 0 : ℝ)) : EReal) := fun f => by
    rw [hx f]; exact match_word _ _ _ c.isLt (hX f) (by omega)
  have hs : ((onehot X c : ℝ) : EReal) = _ := coe_sum Finset.univ fun f : Fin 6 => if c.val = X f + 6 * f.val then (1 : ℝ) else 0
  rw [hs, Fin.sum_univ_six, ← h 0, ← h 1, ← h 2, ← h 3, ← h 4, ← h 5]
  simp only [pay2_apply]
  rfl

end Proof

end
-- ==== Proof.Data.lean ====
/-
  The loss as a function of real data, and what it means for the arrays of a program to hold that data.
-/
module

public import proofs.«01_k».proof.Proof.Math
public import Idealize.ShloMosaic.Lib.Pointwise
public import Idealize.ShloMosaic.Lib.ValueIdx

@[expose] public section

noncomputable section

namespace Proof

open Idealize.ShloMosaic

/-- The number of columns of each field's head. -/
abbrev vocab : Fin 6 → ℕ := ![6, 257, 129, 129, 257, 65]

theorem six_le_vocab (f : Fin 6) : 6 ≤ vocab f := by fin_cases f <;> decide

theorem vocab_lt (f : Fin 6) : vocab f < 2 ^ 31 := by fin_cases f <;> decide

/-- The inputs as numbers: for each token the six entries that are looked up and the six targets, the rows of the six
    tables that can be looked up, the dense layer, and the six heads. -/
structure Data where
  x : Fin 4 → Fin 2048 → Fin 6 → Fin 6
  t : (f : Fin 6) → Fin 4 → Fin 2048 → Fin (vocab f)
  E : Fin 6 → Fin 6 → Fin 768 → ℝ
  H : (f : Fin 6) → Fin 768 → Fin (vocab f) → ℝ
  W : Fin 768 → Fin 768 → ℝ
  b : Fin 768 → ℝ

/-- The sum of a token's six table rows. -/
def Data.embed (D : Data) (n : Fin 4 × Fin 2048) (d : Fin 768) : ℝ := ∑ f, D.E f (D.x n.1 n.2 f) d

/-- A token's hidden row. -/
def Data.hid (D : Data) (n : Fin 4 × Fin 2048) : Fin 768 → ℝ := hidden D.W D.b (D.embed n)

/-- The loss: the sum of the fields' terms. -/
def Data.loss (D : Data) : ℝ := ∑ f, fieldTerm (D.H f) D.hid fun n => D.t f n.1 n.2

/-- A table of `n` rows of width `k`. -/
abbrev Mat (n k : ℕ) : Shape := ⟨2, ![n, k]⟩

/-- The arrays of the programs' arguments that the loss depends on. -/
structure Arrays where
  x : IVec ⟨3, ![4, 2049, 6]⟩ 32
  e : (f : Fin 6) → FVec Ideal (Mat (vocab f) 768) .f32
  h : (f : Fin 6) → FVec Ideal (Mat 768 (vocab f)) .f32
  W : FVec Ideal (Mat 768 768) .f32
  b : FVec Ideal ⟨1, ![768]⟩ .f32

/-- The arrays hold the data. -/
structure Arrays.Fits (A : Arrays) (D : Data) : Prop where
  x : ∀ b t f, A.x (ix3 b (Fin.castSucc t) f) = BitVec.ofNat 32 (D.x b t f).val
  t : ∀ b t f, A.x (ix3 b (Fin.succ t) f) = BitVec.ofNat 32 (D.t f b t).val
  e : ∀ f a d, A.e f (ix2 (Fin.castLE (six_le_vocab f) a) d) = ((D.E f a d : ℝ) : EReal)
  h : ∀ f d v, A.h f (ix2 d v) = ((D.H f d v : ℝ) : EReal)
  W : ∀ k d, A.W (ix2 k d) = ((D.W k d : ℝ) : EReal)
  b : ∀ d, A.b (ix1 d) = ((D.b d : ℝ) : EReal)

end Proof

end
-- ==== Proof.KernelHost.lean ====
/-
  What the kernel's windows show: the arrays that the host lines before the call prepare, read at an index.
-/
module

public import proofs.«01_k».proof.Proof.Data
public import proofs.«01_k».proof.Proof.Words
public import proofs.«01_k».proof.Proof.Gen.KernelIdeal.Frame
public import Idealize.ShloMosaic.Lib.StableHlo.ReadAt

@[expose] public section

set_option maxRecDepth 16384

noncomputable section

namespace Proof

open Idealize.ShloMosaic Idealize.ShloMosaic.TcCoe Cert.KernelIdeal Cert.KernelIdeal.Gen Idealize.SL.Sem

variable (m : (ℓ : Loc nD τ sig) → Buf (Elt Ideal) ℓ) (c : Dev nD)

/-- The arrays as the kernel is launched with them. -/
def arrays : Arrays where
  x := m ((c : Thread nD τ).loc main_arg0)
  e := fun f => match f with
    | 0 => m ((c : Thread nD τ).loc main_arg2)
    | 1 => m ((c : Thread nD τ).loc main_arg3)
    | 2 => m ((c : Thread nD τ).loc main_arg4)
    | 3 => m ((c : Thread nD τ).loc main_arg5)
    | 4 => m ((c : Thread nD τ).loc main_arg6)
    | 5 => m ((c : Thread nD τ).loc main_arg7)
  h := fun f => match f with
    | 0 => m ((c : Thread nD τ).loc main_arg8)
    | 1 => m ((c : Thread nD τ).loc main_arg9)
    | 2 => m ((c : Thread nD τ).loc main_arg10)
    | 3 => m ((c : Thread nD τ).loc main_arg11)
    | 4 => m ((c : Thread nD τ).loc main_arg12)
    | 5 => m ((c : Thread nD τ).loc main_arg13)
  W := m ((c : Thread nD τ).loc main_arg14)
  b := m ((c : Thread nD τ).loc main_arg15)

/-- The token that row `r` of block `k` is: its sequence and its place in it. -/
def token (k : Fin 8) (r : Fin 1024) : Fin 4 × Fin 2048 :=
  (⟨k.val / 2, by omega⟩, ⟨k.val % 2 * 1024 + r.val, by omega⟩)

/-- The first column of each field in the packed head. -/
abbrev offset : Fin 6 → ℕ := ![0, 6, 263, 392, 521, 778]

theorem offset_add_lt (f : Fin 6) (v : Fin (vocab f)) : offset f + v.val < 896 := by
  have h : offset f + vocab f ≤ 896 := by fin_cases f <;> decide
  omega

theorem V_inputs (k : Fin 8) (r : Fin 1024) (f : Fin 6) :
    V m c main_v1 (ix3 k r f) = (arrays m c).x (ix3 (token k r).1 (Fin.castSucc (token k r).2) f) := by
  unfold_abbrev_sides
  after_reads_at
  rfl

theorem V_targets (k : Fin 8) (r : Fin 1024) (f : Fin 6) :
    V m c main_v3 (ix3 k r f) = (arrays m c).x (ix3 (token k r).1 (Fin.succ (token k r).2) f) := by
  unfold_abbrev_sides
  after_reads_at
  refine congrArg (m (c, Proc.tc.devRef main_arg0)) ?_
  refine congrArg (fun i => ix3 _ i f) (Fin.ext ?_)
  exact Nat.add_comm _ _

theorem V_bias (k : Fin 8) (d : Fin 768) : V m c main_v14 (ix2 k d) = (arrays m c).b (ix1 d) := by
  unfold_abbrev_sides
  after_reads_at

/-- Rows of the packed table: the six tables' first six rows one below the other, then the pad. -/
theorem V_table_read (k : Fin 48) (d : Fin 768) :
    V m c main_v10 (ix2 k d) =
      if h : k.val < 36 then
        if h1 : k.val < 6 then (arrays m c).e 0 (ix2 ⟨k.val, h1⟩ d)
        else if h2 : k.val - 6 < 6 then (arrays m c).e 1 (ix2 ⟨k.val - 6, by dsimp; omega⟩ d)
        else if h3 : k.val - 6 - 6 < 6 then (arrays m c).e 2 (ix2 ⟨k.val - 6 - 6, by dsimp; omega⟩ d)
        else if h4 : k.val - 6 - 6 - 6 < 6 then (arrays m c).e 3 (ix2 ⟨k.val - 6 - 6 - 6, by dsimp; omega⟩ d)
        else if h5 : k.val - 6 - 6 - 6 - 6 < 6 then (arrays m c).e 4 (ix2 ⟨k.val - 6 - 6 - 6 - 6, by dsimp; omega⟩ d)
        else (arrays m c).e 5 (ix2 ⟨k.val - 6 - 6 - 6 - 6 - 6, by dsimp; omega⟩ d)
      else FloatOps.sitofp FTy.f32 0#32 := by
  unfold_abbrev_sides
  after_reads_at
  after_reads_simp
  pointwise
  rfl

/-- Row `6 f + a` of the packed table is row `a` of field `f`'s table. -/
theorem V_table (f a : Fin 6) (d : Fin 768) :
    V m c main_v10 (ix2 ⟨a.val + 6 * f.val, by omega⟩ d)
      = (arrays m c).e f (ix2 (Fin.castLE (six_le_vocab f) a) d) := by
  rw [V_table_read, dif_pos (by dsimp only; omega)]
  have ha := a.isLt
  fin_cases f <;> dsimp only <;> split_ifs <;>
    first
      | omega
      | exact congrArg (fun i => (arrays m c).e _ (ix2 i d)) (Fin.ext (by simp only [Fin.val_castLE]; omega))

/-- The rows past the tables are zero. -/
theorem V_table_rest (k : Fin 48) (hk : 36 ≤ k.val) (d : Fin 768) : V m c main_v10 (ix2 k d) = (0 : EReal) := by
  rw [V_table_read, dif_neg (by omega)]
  exact sitofp_zero

/-- Columns of the packed head: the six heads side by side, then the pad. -/
theorem V_head_read (v : Fin 896) (d : Fin 768) :
    V m c main_v12 (ix2 d v) =
      if h : v.val < 843 then
        if h1 : v.val < 6 then (arrays m c).h 0 (ix2 d ⟨v.val, h1⟩)
        else if h2 : v.val - 6 < 257 then (arrays m c).h 1 (ix2 d ⟨v.val - 6, h2⟩)
        else if h3 : v.val - 6 - 257 < 129 then (arrays m c).h 2 (ix2 d ⟨v.val - 6 - 257, h3⟩)
        else if h4 : v.val - 6 - 257 - 129 < 129 then (arrays m c).h 3 (ix2 d ⟨v.val - 6 - 257 - 129, h4⟩)
        else if h5 : v.val - 6 - 257 - 129 - 129 < 257 then
          (arrays m c).h 4 (ix2 d ⟨v.val - 6 - 257 - 129 - 129, h5⟩)
        else (arrays m c).h 5 (ix2 d ⟨v.val - 6 - 257 - 129 - 129 - 257, by dsimp; omega⟩)
      else FloatOps.sitofp FTy.f32 0#32 := by
  unfold_abbrev_sides
  after_reads_at
  after_reads_simp
  pointwise
  rfl

/-- Column `v` of field `f`'s head sits in the packed head at the field's offset. -/
theorem V_head (f : Fin 6) (v : Fin (vocab f)) (d : Fin 768) :
    V m c main_v12 (ix2 d ⟨offset f + v.val, offset_add_lt f v⟩) = (arrays m c).h f (ix2 d v) := by
  suffices key : ∀ n : Fin 896, n.val = offset f + v.val → V m c main_v12 (ix2 d n) = (arrays m c).h f (ix2 d v) from
    key _ rfl
  intro n hn
  rw [V_head_read]
  match f, v, hn with
  | 0, v, hn =>
    have hv : v.val < 6 := v.isLt
    have hn : n.val = 0 + v.val := hn
    rw [dif_pos (by omega), dif_pos (by omega)]
    exact congrArg (fun i => (arrays m c).h 0 (ix2 d i)) (Fin.ext (by dsimp only; omega))
  | 1, v, hn =>
    have hv : v.val < 257 := v.isLt
    have hn : n.val = 6 + v.val := hn
    rw [dif_pos (by omega), dif_neg (by omega), dif_pos (by omega)]
    exact congrArg (fun i => (arrays m c).h 1 (ix2 d i)) (Fin.ext (by dsimp only; omega))
  | 2, v, hn =>
    have hv : v.val < 129 := v.isLt
    have hn : n.val = 263 + v.val := hn
    rw [dif_pos (by omega), dif_neg (by omega), dif_neg (by omega), dif_pos (by omega)]
    exact congrArg (fun i => (arrays m c).h 2 (ix2 d i)) (Fin.ext (by dsimp only; omega))
  | 3, v, hn =>
    have hv : v.val < 129 := v.isLt
    have hn : n.val = 392 + v.val := hn
    rw [dif_pos (by omega), dif_neg (by omega), dif_neg (by omega), dif_neg (by omega), dif_pos (by omega)]
    exact congrArg (fun i => (arrays m c).h 3 (ix2 d i)) (Fin.ext (by dsimp only; omega))
  | 4, v, hn =>
    have hv : v.val < 257 := v.isLt
    have hn : n.val = 521 + v.val := hn
    rw [dif_pos (by omega), dif_neg (by omega), dif_neg (by omega), dif_neg (by omega), dif_neg (by omega),
      dif_pos (by omega)]
    exact congrArg (fun i => (arrays m c).h 4 (ix2 d i)) (Fin.ext (by dsimp only; omega))
  | 5, v, hn =>
    have hv : v.val < 65 := v.isLt
    have hn : n.val = 778 + v.val := hn
    rw [dif_pos (by omega), dif_neg (by omega), dif_neg (by omega), dif_neg (by omega), dif_neg (by omega),
      dif_neg (by omega)]
    exact congrArg (fun i => (arrays m c).h 5 (ix2 d i)) (Fin.ext (by dsimp only; omega))

end Proof

end
-- ==== Proof.KernelOut.lean ====
/-
  What the kernel's call leaves in its result array.
-/
module

public import proofs.«01_k».proof.Proof.KernelRead
public import proofs.«01_k».proof.Proof.KernelLogits
public import proofs.«01_k».proof.Proof.KernelHost
public import Idealize.ShloMosaic.Lib.Pipeline.ValueKit

@[expose] public section

set_option maxRecDepth 16384

noncomputable section

namespace Proof

open Idealize.ShloMosaic Idealize.ShloMosaic.TcCoe Cert.KernelIdeal Cert.KernelIdeal.Gen Idealize.SL.Sem

variable (m : (ℓ : Loc nD τ sig) → Buf (Elt Ideal) ℓ) (c : Dev nD)

theorem points : cfg0.N = 8 := N_0

/-- The grid point as the number of a block of tokens. -/
def blockNo (t : Fin cfg0.N) : Fin 8 := t.cast points

theorem index_inputs : ∀ t : Fin cfg0.N, win0_0.index t 0 = t.val ∧ win0_0.index t 1 = 0 ∧ win0_0.index t 2 = 0 := by
  decide +kernel
theorem index_targets : ∀ t : Fin cfg0.N, win0_1.index t 0 = t.val ∧ win0_1.index t 1 = 0 ∧ win0_1.index t 2 = 0 := by
  decide +kernel

/-- The inputs that point `t` sees are block `t`'s. -/
theorem block_inputs (t : Fin cfg0.N) (r : Fin 1024) (f : Fin 6) :
    (iblk m c 0 t : IVec S1x1024x6 32) (ix3 0 r f) = V m c main_v1 (ix3 (blockNo t) r f) := by
  unfold iblk
  rw [View.read_apply]
  show V m c main_v1 _ = V m c main_v1 _
  refine congrArg _ (funext fun a => Fin.ext ?_)
  obtain ⟨h0, h1, h2⟩ := index_inputs t
  match a with
  | ⟨0, _⟩ => show win0_0.index t 0 * 1 + 1 * 0 = t.val; omega
  | ⟨1, _⟩ => show win0_0.index t 1 * 1024 + 1 * r.val = r.val; omega
  | ⟨2, _⟩ => show win0_0.index t 2 * 6 + 1 * f.val = f.val; omega

/-- The targets that point `t` sees are block `t`'s. -/
theorem block_targets (t : Fin cfg0.N) (r : Fin 1024) (f : Fin 6) :
    (iblk m c 1 t : IVec S1x1024x6 32) (ix3 0 r f) = V m c main_v3 (ix3 (blockNo t) r f) := by
  unfold iblk
  rw [View.read_apply]
  show V m c main_v3 _ = V m c main_v3 _
  refine congrArg _ (funext fun a => Fin.ext ?_)
  obtain ⟨h0, h1, h2⟩ := index_targets t
  match a with
  | ⟨0, _⟩ => show win0_1.index t 0 * 1 + 1 * 0 = t.val; omega
  | ⟨1, _⟩ => show win0_1.index t 1 * 1024 + 1 * r.val = r.val; omega
  | ⟨2, _⟩ => show win0_1.index t 2 * 6 + 1 * f.val = f.val; omega

/-- The other windows show their whole arrays at every point. -/
theorem block_table (t : Fin cfg0.N) : (iblk m c 2 t : FVec Ideal S48x768 .f32) = V m c main_v10 := by
  funext j
  unfold iblk
  rw [View.read_apply]
  show V m c main_v10 _ = V m c main_v10 _
  refine congrArg _ (funext fun a => Fin.ext ?_)
  match a with
  | ⟨0, _⟩ => show 0 * 48 + 1 * (j 0).val = (j 0).val; omega
  | ⟨1, _⟩ => show 0 * 768 + 1 * (j 1).val = (j 1).val; omega

theorem block_weight (t : Fin cfg0.N) : (iblk m c 3 t : FVec Ideal S768x768 .f32) = V m c main_arg14 := by
  funext j
  unfold iblk
  rw [View.read_apply]
  show V m c main_arg14 _ = V m c main_arg14 _
  refine congrArg _ (funext fun a => Fin.ext ?_)
  match a with
  | ⟨0, _⟩ => show 0 * 768 + 1 * (j 0).val = (j 0).val; omega
  | ⟨1, _⟩ => show 0 * 768 + 1 * (j 1).val = (j 1).val; omega

theorem block_bias (t : Fin cfg0.N) : (iblk m c 4 t : FVec Ideal S8x768 .f32) = V m c main_v14 := by
  funext j
  unfold iblk
  rw [View.read_apply]
  show V m c main_v14 _ = V m c main_v14 _
  refine congrArg _ (funext fun a => Fin.ext ?_)
  match a with
  | ⟨0, _⟩ => show 0 * 8 + 1 * (j 0).val = (j 0).val; omega
  | ⟨1, _⟩ => show 0 * 768 + 1 * (j 1).val = (j 1).val; omega

theorem block_head (t : Fin cfg0.N) : (iblk m c 5 t : FVec Ideal S768x896 .f32) = V m c main_v12 := by
  funext j
  unfold iblk
  rw [View.read_apply]
  show V m c main_v12 _ = V m c main_v12 _
  refine congrArg _ (funext fun a => Fin.ext ?_)
  match a with
  | ⟨0, _⟩ => show 0 * 768 + 1 * (j 0).val = (j 0).val; omega
  | ⟨1, _⟩ => show 0 * 896 + 1 * (j 1).val = (j 1).val; omega

/-- The packed table times the weight: what the first point computes and every point uses. -/
def tableProduct : FVec Ideal S48x768 .f32 := k0_pay1 (F := Ideal) (V m c main_v10) (V m c main_arg14)

/-- The logits of a block. -/
def logitsAt (t : Fin cfg0.N) : FVec Ideal S1024x896 .f32 :=
  blockLogits (iblk m c 0 t) (tableProduct m c) (biasRow (V m c main_v14)) (V m c main_v12)

/-- Every point leaves its block of the result, and the table's product for the points after it. -/
theorem left_at : ∀ (n : ℕ) (h : n < cfg0.N),
    outsAt0 m c n h = (blockOut (logitsAt m c ⟨n, h⟩) (k0_pay3 (F := Ideal) (iblk m c 1 ⟨n, h⟩)), tableProduct m c)
  | 0, h => by
    rw [outsAt0_A m c ⟨0, h⟩ rfl, out_A, sout_A, block_table, block_weight, block_bias, block_head]
    rfl
  | n + 1, h => by
    have h8 : cfg0.N = 8 := points
    have hB : ¬(⟨n + 1, h⟩ : Fin cfg0.N).val % 8 = 0 := by dsimp only; omega
    rw [outsAt0_B m c ⟨n + 1, h⟩ hB, out_B, block_bias, block_head]
    show (blockOut (blockLogits _ (outsAt0 m c n _).2 _ _) _, (outsAt0 m c n _).2) = _
    rw [left_at n]
    rfl

/-- The result array: block `k` is what point `k` leaves. -/
def resultArray : FVec Ideal S8x8x128 .f32 := fun i =>
  blockOut (logitsAt m c ((i 0).cast points.symm)) (k0_pay3 (F := Ideal) (iblk m c 1 ((i 0).cast points.symm)))
    (ix3 0 (i 1) (i 2))

theorem index_result : ∀ t : Fin cfg0.N, win0_6.index t 0 = t.val ∧ win0_6.index t 1 = 0 ∧ win0_6.index t 2 = 0 := by
  decide +kernel

theorem result_eq : (dats m 0 c).arrAt 6 cfg0.N = resultArray m c := by
  refine (dats m 0 c).arrAt_eq_of_covers 6 (resultArray m c) (by decide +kernel) fun t hf y => ?_
  rw [after0_6, left_at]
  obtain ⟨h0, h1, h2⟩ := index_result t
  have hy0 : (y 0).val < 1 := (y 0).isLt
  have e0 : ((((cfg0.win 6).blk t).view.emb y) 0 : Fin 8).cast points.symm = t := by
    refine Fin.ext ?_
    show win0_6.index t 0 * 1 + 1 * (y 0).val = t.val
    omega
  have e1 : ((((cfg0.win 6).blk t).view.emb y) 1 : Fin 8) = (y 1 : Fin 8) := by
    refine Fin.ext ?_
    show win0_6.index t 1 * 8 + 1 * (y 1).val = (y 1).val
    omega
  have e2 : ((((cfg0.win 6).blk t).view.emb y) 2 : Fin 128) = (y 2 : Fin 128) := by
    refine Fin.ext ?_
    show win0_6.index t 2 * 128 + 1 * (y 2).val = (y 2).val
    omega
  unfold resultArray
  rw [e0, e1, e2]
  refine congrArg (blockOut (logitsAt m c t) (k0_pay3 (F := Ideal) (iblk m c 1 t))) (funext fun a => ?_)
  match a with
  | ⟨0, _⟩ => exact Fin.ext (by show (y 0).val = 0; omega)
  | ⟨1, _⟩ => rfl
  | ⟨2, _⟩ => rfl

end Proof

end
-- ==== Proof.KernelValue.lean ====
/-
  The kernel's result is the loss of the data its arguments hold.
-/
module

public import proofs.«01_k».proof.Proof.KernelOut
public import proofs.«01_k».proof.Proof.Gen.KernelIdeal.Run
public import proofs.«01_k».proof.Proof.Gen.KernelIdeal.Read

@[expose] public section

set_option maxRecDepth 16384

noncomputable section

namespace Proof

open Idealize.ShloMosaic Idealize.ShloMosaic.TcCoe Cert.KernelIdeal Cert.KernelIdeal.Gen Idealize.SL.Sem

/-- The rows of the packed table: the six looked-up rows of each field in turn, then zeros. -/
def packedRow (D : Data) (k : Fin 48) (d : Fin 768) : ℝ :=
  if h : k.val < 36 then D.E ⟨k.val / 6, by omega⟩ ⟨k.val % 6, by omega⟩ d else 0

theorem packedRow_field (D : Data) (f a : Fin 6) (d : Fin 768) :
    packedRow D ⟨a.val + 6 * f.val, by omega⟩ d = D.E f a d := by
  unfold packedRow
  rw [dif_pos (by dsimp only; omega)]
  have h1 : (a.val + 6 * f.val) / 6 = f.val := by omega
  have h2 : (a.val + 6 * f.val) % 6 = a.val := by omega
  exact congrArg₂ (fun f a => D.E f a d) (Fin.ext h1) (Fin.ext h2)

/-- The one-hot row of a token picks its six table rows out of the packed table. -/
theorem onehot_packed (D : Data) (n : Fin 4 × Fin 2048) (d : Fin 768) :
    ∑ k, onehot (fun f => (D.x n.1 n.2 f).val) k * packedRow D k d = D.embed n d := by
  unfold onehot Data.embed
  simp only [Finset.sum_mul, ite_mul, one_mul, zero_mul]
  rw [Finset.sum_comm]
  refine Finset.sum_congr rfl fun f _ => ?_
  rw [← packedRow_field D f (D.x n.1 n.2 f) d]
  refine (Finset.sum_eq_single ⟨(D.x n.1 n.2 f).val + 6 * f.val, by omega⟩ (fun k _ hk => ?_) (fun h => absurd (Finset.mem_univ _) h)).trans ?_
  · exact if_neg fun e => hk (Fin.ext e)
  · exact if_pos rfl

variable (m : (ℓ : Loc nD τ sig) → Buf (Elt Ideal) ℓ) (c : Dev nD)

theorem pay1_apply (e : FVec Ideal S48x768 .f32) (w : FVec Ideal S768x768 .f32) (k : Fin 48) (d : Fin 768) :
    k0_pay1 (F := Ideal) e w (ix2 k d) = ∑ j : Fin 768, e (ix2 k j) * w (ix2 j d) := by
  unfold k0_pay1
  pointwise

variable {m c} {D : Data} (hF : (arrays m c).Fits D)

include hF in
theorem table_real (k : Fin 48) (d : Fin 768) : V m c main_v10 (ix2 k d) = ((packedRow D k d : ℝ) : EReal) := by
  by_cases hk : k.val < 36
  · have h := (V_table m c ⟨k.val / 6, by omega⟩ ⟨k.val % 6, by omega⟩ d).trans (hF.e _ _ _)
    rw [← packedRow_field] at h
    have e : (⟨k.val % 6 + 6 * (k.val / 6), by omega⟩ : Fin 48) = k := Fin.ext (by dsimp only; omega)
    dsimp only at h
    rw [e] at h
    exact h
  · rw [V_table_rest m c k (by omega) d]
    unfold packedRow
    rw [dif_neg hk]
    rfl

include hF in
theorem tableProduct_real (k : Fin 48) (d : Fin 768) :
    tableProduct m c (ix2 k d) = ((∑ j, packedRow D k j * D.W j d : ℝ) : EReal) := by
  unfold tableProduct
  rw [pay1_apply, coe_sum]
  refine Finset.sum_congr rfl fun j _ => ?_
  rw [table_real hF, V_main_arg14, EReal.coe_mul]
  exact congrArg _ (hF.W j d)

include hF in
/-- The logits of a block are the reference's logits of its tokens. -/
theorem logits_real (t : Fin cfg0.N) (r : Fin 1024) (f : Fin 6) (v : Fin (vocab f)) :
    logitsAt m c t (ix2 r ⟨offset f + v.val, offset_add_lt f v⟩)
      = ((logits (D.H f) (D.hid (token (blockNo t) r)) v : ℝ) : EReal) := by
  unfold logitsAt
  rw [blockLogits_apply _ _ _ _ r _ (fun g => (D.x (token (blockNo t) r).1 (token (blockNo t) r).2 g).val)
    (fun g => by rw [block_inputs, V_inputs]; exact hF.x _ _ _) (fun g => Fin.isLt _)]
  unfold logits
  rw [coe_sum]
  refine Finset.sum_congr rfl fun d _ => ?_
  rw [V_head, hF.h, EReal.coe_mul]
  congr 1
  have hb : biasRow (V m c main_v14) (ix2 0 d) = ((D.b d : ℝ) : EReal) := (V_bias m c 0 d).trans (hF.b d)
  rw [hb]
  have hs : (∑ k : Fin 48, ((onehot (fun g => (D.x (token (blockNo t) r).1 (token (blockNo t) r).2 g).val) k : ℝ) : EReal)
      * tableProduct m c (ix2 k d)) = ((∑ j, D.embed (token (blockNo t) r) j * D.W j d : ℝ) : EReal) := by
    simp only [← onehot_packed]
    rw [← onehot_dense, coe_sum]
    refine Finset.sum_congr rfl fun k _ => ?_
    rw [tableProduct_real hF, EReal.coe_mul]
  rw [hs, ← EReal.coe_add]
  unfold Data.hid hidden
  rw [coe_max]
  rfl

theorem slab_apply (V o : ℕ) (h : S1024x896.Slices ![0, o] (Tall V)) (l : FVec Ideal S1024x896 .f32) (r : Fin 1024)
    (v : Fin V) (hv : o + v.val < 896) : slab V o h l (ix2 r v) = l (ix2 r ⟨o + v.val, hv⟩) := by
  unfold slab
  pointwise

theorem tgtCol_apply (f : Fin 6) (h : S1024x6.Slices ![0, f.val] S1024x1) (t : IVec S1024x6 32) (r : Fin 1024) :
    tgtCol f.val h t (ix2 r 0) = t (ix2 r f) := by
  unfold tgtCol
  pointwise

include hF in
theorem target_real (t : Fin cfg0.N) (r : Fin 1024) (f : Fin 6) :
    k0_pay3 (F := Ideal) (iblk m c 1 t) (ix2 r f)
      = BitVec.ofNat 32 (D.t f (token (blockNo t) r).1 (token (blockNo t) r).2).val := by
  rw [pay3_apply, block_targets, V_targets]
  exact hF.t _ _ _

/-- What a token adds to a field's sum. -/
def weighted (D : Data) (f : Fin 6) (n : Fin 4 × Fin 2048) : ℝ :=
  nll (logits (D.H f) (D.hid n)) (D.t f n.1 n.2) * counts (D.t f n.1 n.2).val

include hF in
theorem nllCols_real (t : Fin cfg0.N) (r : Fin 1024) (f : Fin 6) :
    nllCols (logitsAt m c t) (k0_pay3 (F := Ideal) (iblk m c 1 t)) f (ix2 r 0)
      = ((weighted D f (token (blockNo t) r) : ℝ) : EReal) := by
  match f with
  | 0 =>
    exact nllCol_apply (V := 6) _ _ _ (by decide) _ _ _ r _ (D.t 0 _ _)
      (fun v => (slab_apply _ _ _ _ r v (offset_add_lt 0 v)).trans (logits_real hF t r 0 v))
      ((tgtCol_apply 0 _ _ r).trans (target_real hF t r 0))
  | 1 =>
    exact nllCol_apply (V := 257) _ _ _ (by decide) _ _ _ r _ (D.t 1 _ _)
      (fun v => (slab_apply _ _ _ _ r v (offset_add_lt 1 v)).trans (logits_real hF t r 1 v))
      ((tgtCol_apply 1 _ _ r).trans (target_real hF t r 1))
  | 2 =>
    exact nllCol_apply (V := 129) _ _ _ (by decide) _ _ _ r _ (D.t 2 _ _)
      (fun v => (slab_apply _ _ _ _ r v (offset_add_lt 2 v)).trans (logits_real hF t r 2 v))
      ((tgtCol_apply 2 _ _ r).trans (target_real hF t r 2))
  | 3 =>
    exact nllCol_apply (V := 129) _ _ _ (by decide) _ _ _ r _ (D.t 3 _ _)
      (fun v => (slab_apply _ _ _ _ r v (offset_add_lt 3 v)).trans (logits_real hF t r 3 v))
      ((tgtCol_apply 3 _ _ r).trans (target_real hF t r 3))
  | 4 =>
    exact nllCol_apply (V := 257) _ _ _ (by decide) _ _ _ r _ (D.t 4 _ _)
      (fun v => (slab_apply _ _ _ _ r v (offset_add_lt 4 v)).trans (logits_real hF t r 4 v))
      ((tgtCol_apply 4 _ _ r).trans (target_real hF t r 4))
  | 5 =>
    exact nllCol_apply (V := 65) _ _ _ (by decide) _ _ _ r _ (D.t 5 _ _)
      (fun v => (slab_apply _ _ _ _ r v (offset_add_lt 5 v)).trans (logits_real hF t r 5 v))
      ((tgtCol_apply 5 _ _ r).trans (target_real hF t r 5))

include hF in
theorem countCols_real (t : Fin cfg0.N) (r : Fin 1024) (f : Fin 6) :
    countCols (k0_pay3 (F := Ideal) (iblk m c 1 t)) f (ix2 r 0)
      = ((counts (D.t f (token (blockNo t) r).1 (token (blockNo t) r).2).val : ℝ) : EReal) := by
  have hk : (D.t f (token (blockNo t) r).1 (token (blockNo t) r).2).val < 2 ^ 32 :=
    (Fin.isLt _).trans ((vocab_lt f).trans (by decide))
  match f, hk with
  | 0, hk => exact countCol_apply _ r _ hk ((tgtCol_apply 0 _ _ r).trans (target_real hF t r 0))
  | 1, hk => exact countCol_apply _ r _ hk ((tgtCol_apply 1 _ _ r).trans (target_real hF t r 1))
  | 2, hk => exact countCol_apply _ r _ hk ((tgtCol_apply 2 _ _ r).trans (target_real hF t r 2))
  | 3, hk => exact countCol_apply _ r _ hk ((tgtCol_apply 3 _ _ r).trans (target_real hF t r 3))
  | 4, hk => exact countCol_apply _ r _ hk ((tgtCol_apply 4 _ _ r).trans (target_real hF t r 4))
  | 5, hk => exact countCol_apply _ r _ hk ((tgtCol_apply 5 _ _ r).trans (target_real hF t r 5))

/-- Blocks and rows number the tokens. -/
def tokens : Fin 8 × Fin 1024 ≃ Fin 4 × Fin 2048 where
  toFun p := token p.1 p.2
  invFun n := (⟨2 * n.1.val + n.2.val / 1024, by omega⟩, ⟨n.2.val % 1024, by omega⟩)
  left_inv p := Prod.ext (Fin.ext (by dsimp only [token]; omega)) (Fin.ext (by dsimp only [token]; omega))
  right_inv n := Prod.ext (Fin.ext (by dsimp only [token]; omega)) (Fin.ext (by dsimp only [token]; omega))

theorem sum_tokens (g : Fin 4 × Fin 2048 → ℝ) :
    ∑ k : Fin 8, ∑ r : Fin 1024, ((g (token k r) : ℝ) : EReal) = ((∑ n, g n : ℝ) : EReal) := by
  rw [← tokens.sum_comp, Fintype.sum_prod_type, coe_sum]
  exact Finset.sum_congr rfl fun k _ => (coe_sum _ _).symm

include hF in
/-- Row 0 of block `k` holds the fields' sums over the block's tokens, row 1 how many tokens count. -/
theorem result_row0 (k : Fin 8) (f : Fin 6) :
    resultArray m c (ix3 k 0 ⟨f.val, by omega⟩) = ∑ r : Fin 1024, ((weighted D f (token k r) : ℝ) : EReal) :=
  (pack_row0 _ _ f).trans (Finset.sum_congr rfl fun r _ => nllCols_real hF (k.cast points.symm) r f)

include hF in
theorem result_row1 (k : Fin 8) (f : Fin 6) :
    resultArray m c (ix3 k 1 ⟨f.val, by omega⟩)
      = ∑ r : Fin 1024, ((counts (D.t f (token k r).1 (token k r).2).val : ℝ) : EReal) :=
  (pack_row1 _ _ f).trans (Finset.sum_congr rfl fun r _ => countCols_real hF (k.cast points.symm) r f)

open Cert.KernelIdeal.Read in
/-- The host lines after the call: per field the quotient of the two sums, then the sum over the fields. -/
theorem tail_apply (r0 : FVec Ideal S8x8x128 .f32) (i : S_.Idx) :
    val_main_v24 (F := Ideal) r0 i
      = ∑ f : Fin 6, Ideal.div (∑ k : Fin 8, r0 (ix3 k 0 ⟨f.val, by omega⟩))
          (max (∑ k : Fin 8, r0 (ix3 k 1 ⟨f.val, by omega⟩)) 1) := by
  unfold val_main_v24 val_main_v23 val_main_v22 val_main_v21 val_main_v20 val_main_v19 val_main_v18 val_main_v17 val_main_v16
    val_main_cst val_main_cst_1 val_main_cst_2
  pointwise

include hF in
theorem kernel_value (i : S_.Idx) :
    Cert.KernelIdeal.Read.val_main_v24 (F := Ideal) (resultArray m c) i = ((D.loss : ℝ) : EReal) := by
  rw [tail_apply]
  unfold Data.loss
  rw [coe_sum]
  refine Finset.sum_congr rfl fun f _ => ?_
  simp only [result_row0 hF, result_row1 hF]
  rw [sum_tokens (weighted D f), sum_tokens fun n => counts (D.t f n.1 n.2).val, div_max]
  rfl

end Proof

end
-- ==== Proof.Gathers.lean ====
/-
  The reference's two lookups read at an index: a row of a table, and one entry along the last axis.
-/
module

public import proofs.«01_k».proof.Proof.Data
public import proofs.«01_k».proof.Proof.Words

@[expose] public section

noncomputable section

namespace Proof

open Idealize.ShloMosaic

variable {α : Type}

/-- Rows of a table of width 768, one for each of 4 × 2048 indices. -/
abbrev rowLookup (N : ℕ) (wf : GatherDims.WF (Mat N 768) ⟨3, ![4, 2048, 1]⟩ ⟨3, ![4, 2048, 768]⟩ [2] [0] [] [0] [] 2 ![1, 768]) :
    GatherDims (Mat N 768) ⟨3, ![4, 2048, 1]⟩ ⟨3, ![4, 2048, 768]⟩ where
  offsetDims := [2]
  collapsedSliceDims := [0]
  operandBatchingDims := []
  startIndicesBatchingDims := []
  startIndexMap := [0]
  indexVectorDim := 2
  sliceSizes := ![1, 768]
  wf := wf

/-- One entry along the last axis, for each of 4 × 2048 rows. -/
abbrev entryLookup (V : ℕ) (wf : GatherDims.WF ⟨3, ![4, 2048, V]⟩ ⟨4, ![4, 2048, 1, 1]⟩ ⟨3, ![4, 2048, 1]⟩ [] [2] [0, 1] [2] [0, 1] 3 ![1, 1, 1]) :
    GatherDims ⟨3, ![4, 2048, V]⟩ ⟨4, ![4, 2048, 1, 1]⟩ ⟨3, ![4, 2048, 1]⟩ where
  offsetDims := []
  collapsedSliceDims := [2]
  operandBatchingDims := [0, 1]
  startIndicesBatchingDims := [0, 1]
  startIndexMap := [2]
  indexVectorDim := 3
  sliceSizes := ![1, 1, 1]
  wf := wf

/-- A word for a small number, read signed and clamped, is the number. -/
theorem word_clamp {N : ℕ} (k : Fin N) (hN : N ≤ 2 ^ 31) : min (BitVec.ofNat 32 k.val).toInt.toNat (N - 1) = k.val := by
  have hk := k.isLt
  have h : (BitVec.ofNat 32 k.val).toInt = (k.val : ℤ) := by
    rw [BitVec.toInt_eq_toNat_of_lt] <;> rw [BitVec.toNat_ofNat, Nat.mod_eq_of_lt (by omega)]
    omega
  rw [h, Int.toNat_natCast]
  omega

theorem rowLookup_apply {N : ℕ} (hN : N ≤ 2 ^ 31)
    (wf : GatherDims.WF (Mat N 768) ⟨3, ![4, 2048, 1]⟩ ⟨3, ![4, 2048, 768]⟩ [2] [0] [] [0] [] 2 ![1, 768])
    (x : (Mat N 768).Idx → α) (idx : IVec ⟨3, ![4, 2048, 1]⟩ 32) (b : Fin 4) (t : Fin 2048) (d : Fin 768) (k : Fin N)
    (hk : idx (ix3 b t 0) = BitVec.ofNat 32 k.val) :
    Host.gather (rowLookup N wf) x idx (ix3 b t d) = x (ix2 k d) := by
  unfold Host.gather
  refine congrArg x (funext fun a => Fin.ext ?_)
  match a with
  | ⟨0, _⟩ =>
    have hs : (rowLookup N wf).siIdx (ix3 b t d) ⟨0, Nat.one_pos⟩ = ix3 b t 0 := by
      funext i
      match i with
      | ⟨0, _⟩ => rfl
      | ⟨1, _⟩ => rfl
      | ⟨2, _⟩ => rfl
    show min (idx ((rowLookup N wf).siIdx (ix3 b t d) ⟨0, Nat.one_pos⟩)).toInt.toNat (N - 1) + 0 + 0 = k.val
    rw [hs, hk, word_clamp k hN]
    rfl
  | ⟨1, _⟩ =>
    show 0 + 0 + d.val = d.val
    omega

theorem entryLookup_apply {V : ℕ} (hV : V ≤ 2 ^ 31)
    (wf : GatherDims.WF ⟨3, ![4, 2048, V]⟩ ⟨4, ![4, 2048, 1, 1]⟩ ⟨3, ![4, 2048, 1]⟩ [] [2] [0, 1] [2] [0, 1] 3 ![1, 1, 1])
    (x : (⟨3, ![4, 2048, V]⟩ : Shape).Idx → α) (idx : IVec ⟨4, ![4, 2048, 1, 1]⟩ 32) (b : Fin 4) (t : Fin 2048) (k : Fin V)
    (hk : idx (ix4 b t 0 0) = BitVec.ofNat 32 k.val) :
    Host.gather (entryLookup V wf) x idx (ix3 b t 0) = x (ix3 b t k) := by
  unfold Host.gather
  refine congrArg x (funext fun a => Fin.ext ?_)
  match a with
  | ⟨0, _⟩ =>
    show 0 + b.val + 0 = b.val
    omega
  | ⟨1, _⟩ =>
    show 0 + t.val + 0 = t.val
    omega
  | ⟨2, _⟩ =>
    have hs : (entryLookup V wf).siIdx (ix3 b t 0) ⟨0, Nat.one_pos⟩ = ix4 b t 0 0 := by
      funext i
      match i with
      | ⟨0, _⟩ => rfl
      | ⟨1, _⟩ => rfl
      | ⟨2, _⟩ => rfl
      | ⟨3, _⟩ => rfl
    show min (idx ((entryLookup V wf).siIdx (ix3 b t 0) ⟨0, Nat.one_pos⟩)).toInt.toNat (V - 1) + 0 + 0 = k.val
    rw [hs, hk, word_clamp k hV]
    rfl

end Proof

end
-- ==== Proof.RefField.lean ====
/-
  One field of the reference, for any number of columns: the log-softmax of its logits, the entry at each target,
  and the mean of those that count.
-/
module

public import proofs.«01_k».proof.Proof.Gathers
public import proofs.«01_k».proof.Proof.KernelField
public import proofs.«01_k».proof.Proof.Gen.ReferenceIdeal.Run
public import proofs.«01_k».proof.Proof.Gen.ReferenceIdeal.Read

@[expose] public section

noncomputable section

namespace Proof

open Idealize.ShloMosaic Idealize.ShloMosaic.TcCoe Cert.ReferenceIdeal

/-- A row of `V` entries for each of 4 × 2048 tokens. -/
abbrev Cube (V : ℕ) : Shape := ⟨3, ![4, 2048, V]⟩

variable {V : ℕ} (hr : (Cube V).ReducesTo [2] S4x2048) (hb : S4x2048x1.BroadcastsInDim (Cube V) ![0, 1, 2])

/-- The logits less their row's maximum. -/
def shifted (l : FVec Ideal (Cube V) .f32) : FVec Ideal (Cube V) .f32 :=
  subf l (broadcastInDim (Cube V) ![0, 1, 2] hb (broadcastInDim S4x2048x1 ![0, 1] Facts₀.bcast_S4x2048_S4x2048x1_0_1
    (maximumf (broadcastInDim S4x2048 ![] Facts₀.bcast_S_S4x2048 (constant S_ .f32 0xFF800000#32))
      (Host.reduce FloatOps.maximumf l (constant S_ .f32 0xFF800000#32) hr Facts₀.h_S_))))

/-- The log-softmax of the logits. -/
def logSoftmax (l : FVec Ideal (Cube V) .f32) : FVec Ideal (Cube V) .f32 :=
  subf (shifted hr hb l) (broadcastInDim (Cube V) ![0, 1, 2] hb (Host.log
    (broadcastInDim S4x2048x1 ![0, 1] Facts₀.bcast_S4x2048_S4x2048x1_0_1
      (Host.reduceAdd (Host.exp (shifted hr hb l)) (constant S_ .f32 0x00000000#32) hr Facts₀.h_S_))))

theorem logSoftmax_apply (hV : 0 < V) (l : FVec Ideal (Cube V) .f32) (b : Fin 4) (t : Fin 2048) (a : Fin V → ℝ)
    (hl : ∀ v, l (ix3 b t v) = ((a v : ℝ) : EReal)) :
    ∃ M : ℝ, ∀ v, logSoftmax hr hb l (ix3 b t v)
      = ((a v : EReal) - (M : EReal)) - Ideal.log (0 + ∑ w, Ideal.exp ((a w : EReal) - (M : EReal))) := by
  obtain ⟨M, hM⟩ := maxFold_real hV a
  refine ⟨M, fun v => ?_⟩
  unfold logSoftmax shifted
  pointwise
  simp only [hl, ofBits_neg_inf, hM, max_bot_left, zero_add]

/-- The targets as start indices: a negative one counts from the end. -/
def startIdx (V : ℕ) (t : IVec S4x2048 32) : IVec S4x2048x1x1 32 :=
  shapeCast S4x2048x1x1
    (select (cmpi .slt (broadcastInDim S4x2048x1 ![0, 1] Facts₀.bcast_S4x2048_S4x2048x1_0_1 t)
        (broadcastInDim S4x2048x1 ![] Facts₀.bcast_S_S4x2048x1 (constantI S_ 32 0#32)))
      (addi (broadcastInDim S4x2048x1 ![0, 1] Facts₀.bcast_S4x2048_S4x2048x1_0_1 t)
        (broadcastInDim S4x2048x1 ![] Facts₀.bcast_S_S4x2048x1 (constantI S_ 32 (BitVec.ofNat 32 V))))
      (broadcastInDim S4x2048x1 ![0, 1] Facts₀.bcast_S4x2048_S4x2048x1_0_1 t))
    Facts₀.shapeCasts_S4x2048x1_S4x2048x1x1

/-- Whether a start index is in range. -/
def inRange (V : ℕ) (i : IVec S4x2048x1x1 32) : IVec S4x2048x1 1 :=
  Host.reduce IntOp.andi
    (andi (cmpi .sge i (broadcastInDim S4x2048x1x1 ![] Facts₀.bcast_S_S4x2048x1x1 (constantI S_ 32 0#32)))
      (cmpi .sle i (broadcastInDim S4x2048x1x1 ![0, 1, 2, 3] Facts₀.bcast_S1x1x1x1_S4x2048x1x1_0_1_2_3
        (broadcastInDim S1x1x1x1 ![3] Facts₀.bcast_S1_S1x1x1x1_3 (constantI S1 32 (BitVec.ofNat 32 (V - 1)))))))
    (constantI S_ 1 1#1) Facts₀.reducesTo_S4x2048x1x1_S4x2048x1_d3 Facts₀.h_S_

variable (wf : GatherDims.WF (Cube V) S4x2048x1x1 S4x2048x1 [] [2] [0, 1] [2] [0, 1] 3 ![1, 1, 1])

theorem select_at {s : Shape} {α : Type} (c : IVec s 1) (x y : s.Idx → α) (i : s.Idx) :
    select c x y i = Scalar.select (c i) (x i) (y i) := rfl

/-- The entry of each row at its target. -/
def takeAlong (p : FVec Ideal (Cube V) .f32) (t : IVec S4x2048 32) : FVec Ideal S4x2048x1 .f32 :=
  select (inRange V (startIdx V t)) (Host.gather (entryLookup V wf) p (startIdx V t))
    (broadcastInDim S4x2048x1 ![] Facts₀.bcast_S_S4x2048x1 (constant S_ .f32 0x7FC00000#32))

theorem startIdx_apply (hV : V < 2 ^ 31) (t : IVec S4x2048 32) (b : Fin 4) (n : Fin 2048) (k : Fin V)
    (ht : t (ix2 b n) = BitVec.ofNat 32 k.val) : startIdx V t (ix4 b n 0 0) = BitVec.ofNat 32 k.val := by
  unfold startIdx
  pointwise
  rw [ht, show IntOp.cmpi .slt (BitVec.ofNat 32 k.val) 0#32 = 0#1 from ?_]
  · rfl
  · rw [show (0#32 : BitVec 32) = BitVec.ofNat 32 0 from rfl,
      WordCmp.cmpi_slt_ofNat (lt_trans k.isLt hV) (by norm_num)]
    simp

theorem inRange_apply (hV : V < 2 ^ 31) (i : IVec S4x2048x1x1 32) (b : Fin 4) (n : Fin 2048) (k : Fin V)
    (hi : i (ix4 b n 0 0) = BitVec.ofNat 32 k.val) : inRange V i (ix3 b n 0) = 1#1 := by
  have h0 : IntOp.cmpi .sge (BitVec.ofNat 32 k.val) 0#32 = 1#1 := by
    rw [show (0#32 : BitVec 32) = BitVec.ofNat 32 0 from rfl,
      WordCmp.cmpi_sge_ofNat (lt_trans k.isLt hV) (by norm_num)]
    simp
  have h1 : IntOp.cmpi .sle (BitVec.ofNat 32 k.val) (BitVec.ofNat 32 (V - 1)) = 1#1 := by
    rw [WordCmp.cmpi_sle_ofNat (lt_trans k.isLt hV) (lt_of_le_of_lt (Nat.sub_le _ _) hV)]
    have := k.isLt
    simp only [WordCmp.ofBool_decide_eq_one_iff]
    omega
  unfold inRange
  pointwise
  have hc : ∀ x : Fin 1, i (ix4 b n 0 x) = BitVec.ofNat 32 k.val := fun x => by rw [Subsingleton.elim x 0]; exact hi
  simp only [hc, h0, h1]
  rfl

theorem takeAlong_apply (hV : V < 2 ^ 31) (p : FVec Ideal (Cube V) .f32) (t : IVec S4x2048 32) (b : Fin 4) (n : Fin 2048)
    (k : Fin V) (ht : t (ix2 b n) = BitVec.ofNat 32 k.val) : takeAlong wf p t (ix3 b n 0) = p (ix3 b n k) := by
  have hs := startIdx_apply hV t b n k ht
  unfold takeAlong
  rw [select_at, inRange_apply hV _ b n k hs, entryLookup_apply hV.le wf p _ b n k hs]
  rfl

/-- One where a target counts, zero elsewhere. -/
def countMask (t : IVec S4x2048 32) : FVec Ideal S4x2048 .f32 :=
  uitofp .f32 (cmpi .ne t (broadcastInDim S4x2048 ![] Facts₀.bcast_S_S4x2048 (constantI S_ 32 0#32)))

theorem countMask_apply (hV : V < 2 ^ 31) (t : IVec S4x2048 32) (b : Fin 4) (n : Fin 2048) (k : Fin V)
    (ht : t (ix2 b n) = BitVec.ofNat 32 k.val) : countMask t (ix2 b n) = ((counts k.val : ℝ) : EReal) := by
  unfold countMask
  pointwise
  rw [ht, show (0#32 : BitVec 32) = BitVec.ofNat 32 0 from rfl,
    cmpi_ne_word (lt_trans (lt_trans k.isLt hV) (by norm_num)) (by norm_num)]
  exact uitofp_bit_not _

/-- The field's term of the loss. -/
def refField (l : FVec Ideal (Cube V) .f32) (t : IVec S4x2048 32) : FVec Ideal S_ .f32 :=
  Host.divf
    (Host.reduceAdd (mulf (Host.negf (shapeCast S4x2048 (takeAlong wf (logSoftmax hr hb l) t) Facts₀.shapeCasts_S4x2048x1_S4x2048))
      (countMask t)) (constant S_ .f32 0x00000000#32) Facts₀.reducesTo_S4x2048_S_d0_1 Facts₀.h_S_)
    (maximumf (Host.reduceAdd (countMask t) (constant S_ .f32 0x00000000#32) Facts₀.reducesTo_S4x2048_S_d0_1 Facts₀.h_S_)
      (constant S_ .f32 0x3F800000#32))

theorem refField_apply (hV : V < 2 ^ 31) (l : FVec Ideal (Cube V) .f32) (t : IVec S4x2048 32) (i : S_.Idx)
    (a : Fin 4 × Fin 2048 → Fin V → ℝ) (k : Fin 4 × Fin 2048 → Fin V)
    (hl : ∀ b n v, l (ix3 b n v) = ((a (b, n) v : ℝ) : EReal))
    (ht : ∀ b n, t (ix2 b n) = BitVec.ofNat 32 (k (b, n)).val) :
    refField hr hb wf l t i
      = (((∑ n, nll (a n) (k n) * counts (k n).val) / max (∑ n, counts (k n).val) 1 : ℝ) : EReal) := by
  have hT : ∀ b n, -takeAlong wf (logSoftmax hr hb l) t (ix3 b n 0) = ((nll (a (b, n)) (k (b, n)) : ℝ) : EReal) := by
    intro b n
    obtain ⟨M, hM⟩ := logSoftmax_apply hr hb (k (b, n)).pos l b n (a (b, n)) (hl b n)
    rw [takeAlong_apply wf hV _ t b n (k (b, n)) (ht b n), hM]
    exact nll_reference _ _ M
  unfold refField
  pointwise
  simp only [hT, countMask_apply hV t _ _ _ (ht _ _), ← EReal.coe_mul]
  rw [← div_max, Fintype.sum_prod_type, Fintype.sum_prod_type]
  simp only [coe_sum]

end Proof

end
-- ==== Proof.RefValue.lean ====
/-
  The reference's value over arrays that hold a problem's data: its hidden rows, its logits, and the loss.
-/
module

public import proofs.«01_k».proof.Proof.RefField
public import Idealize.ShloMosaic.Lib.Pointwise.IndexVar

@[expose] public section

noncomputable section

namespace Proof

open Idealize.ShloMosaic Idealize.ShloMosaic.TcCoe Cert.ReferenceIdeal Cert.ReferenceIdeal.Read

/-- One field's column of an array of words. -/
def fieldColumn (f : Fin 6) (hs : S4x2048x6.Slices ![0, 0, f.val] S4x2048x1) (y : IVec S4x2048x6 32) : IVec S4x2048 32 :=
  shapeCast S4x2048 (extractStridedSlice S4x2048x1 ![0, 0, f.val] y hs) Facts₀.shapeCasts_S4x2048x1_S4x2048

theorem fieldColumn_apply (f : Fin 6) (hs : S4x2048x6.Slices ![0, 0, f.val] S4x2048x1) (y : IVec S4x2048x6 32)
    (b : Fin 4) (n : Fin 2048) : fieldColumn f hs y (ix2 b n) = y (ix3 b n f) := by
  unfold fieldColumn
  pointwise

/-- The rows of a table at the given numbers: a negative one counts from the end. -/
def rowsAt (N : ℕ) (wf : GatherDims.WF (Mat N 768) S4x2048x1 S4x2048x768 [2] [0] [] [0] [] 2 ![1, 768])
    (e : FVec Ideal (Mat N 768) .f32) (t : IVec S4x2048 32) : FVec Ideal S4x2048x768 .f32 :=
  Host.gather (rowLookup N wf) e (broadcastInDim S4x2048x1 ![0, 1] Facts₀.bcast_S4x2048_S4x2048x1_0_1
    (select (cmpi .slt t (broadcastInDim S4x2048 ![] Facts₀.bcast_S_S4x2048 (constantI S_ 32 0#32)))
      (addi t (broadcastInDim S4x2048 ![] Facts₀.bcast_S_S4x2048 (constantI S_ 32 (BitVec.ofNat 32 N)))) t))

theorem rowsAt_apply {N : ℕ} (hN : N < 2 ^ 31)
    (wf : GatherDims.WF (Mat N 768) S4x2048x1 S4x2048x768 [2] [0] [] [0] [] 2 ![1, 768])
    (e : FVec Ideal (Mat N 768) .f32) (t : IVec S4x2048 32) (b : Fin 4) (n : Fin 2048) (d : Fin 768) (k : Fin N)
    (ht : t (ix2 b n) = BitVec.ofNat 32 k.val) : rowsAt N wf e t (ix3 b n d) = e (ix2 k d) := by
  refine rowLookup_apply hN.le wf e _ b n d k ?_
  pointwise
  rw [ht, show IntOp.cmpi .slt (BitVec.ofNat 32 k.val) 0#32 = 0#1 from ?_]
  · rfl
  · rw [show (0#32 : BitVec 32) = BitVec.ofNat 32 0 from rfl,
      WordCmp.cmpi_slt_ofNat (lt_trans k.isLt hN) (by norm_num)]
    simp

/-- Rows of width 768 times a head of `V` columns. -/
abbrev headDot (V : ℕ) (wf : DotDims.WF S4x2048x768 (Mat 768 V) (Cube V) [2] [0] [0, 1] [1] [] []) :
    DotDims S4x2048x768 (Mat 768 V) (Cube V) where
  lhsContracting := [2]
  rhsContracting := [0]
  lhsNonContracting := [0, 1]
  rhsNonContracting := [1]
  lhsBatch := []
  rhsBatch := []
  wf := wf

theorem headDot_apply {V : ℕ} (wf : DotDims.WF S4x2048x768 (Mat 768 V) (Cube V) [2] [0] [0, 1] [1] [] [])
    (y : FVec Ideal S4x2048x768 .f32) (w : FVec Ideal (Mat 768 V) .f32) (b : Fin 4) (n : Fin 2048) (v : Fin V) :
    Host.dotGeneral (headDot V wf) none y w (ix3 b n v) = ∑ d : Fin 768, y (ix3 b n d) * w (ix2 d v) := by
  pointwise

variable {A : Arrays} {D : Data} (hF : A.Fits D)

include hF in
theorem inputs_apply (b : Fin 4) (n : Fin 2048) (f : Fin 6) :
    val_main_v0 (F := Ideal) A.x (ix3 b n f) = BitVec.ofNat 32 (D.x b n f).val := by
  rw [← hF.x b n f]
  unfold val_main_v0
  pointwise
  rfl

include hF in
theorem targets_apply (b : Fin 4) (n : Fin 2048) (f : Fin 6) :
    val_main_v1 (F := Ideal) A.x (ix3 b n f) = BitVec.ofNat 32 (D.t f b n).val := by
  rw [← hF.t b n f]
  unfold val_main_v1
  pointwise
  exact congrArg (fun z => A.x (ix3 b z f)) (Fin.ext (Nat.add_comm _ _))

include hF in
/-- The row that a token looks up in field `f`'s table. -/
theorem row_apply (f : Fin 6) (hs : S4x2048x6.Slices ![0, 0, f.val] S4x2048x1)
    (wf : GatherDims.WF (Mat (vocab f) 768) S4x2048x1 S4x2048x768 [2] [0] [] [0] [] 2 ![1, 768])
    (b : Fin 4) (n : Fin 2048) (d : Fin 768) :
    rowsAt (vocab f) wf (A.e f) (fieldColumn f hs (val_main_v0 (F := Ideal) A.x)) (ix3 b n d)
      = ((D.E f (D.x b n f) d : ℝ) : EReal) :=
  (rowsAt_apply (vocab_lt f) wf (A.e f) _ b n d (Fin.castLE (six_le_vocab f) (D.x b n f))
    ((fieldColumn_apply f hs _ b n).trans (inputs_apply hF b n f))).trans (hF.e f (D.x b n f) d)

include hF in
/-- The summed embedding of a token. -/
theorem embedding_apply (b : Fin 4) (n : Fin 2048) (d : Fin 768) :
    val_main_v60 (F := Ideal) A.x (A.e 0) (A.e 1) (A.e 2) (A.e 3) (A.e 4) (A.e 5) (ix3 b n d)
      = ((D.embed (b, n) d : ℝ) : EReal) := by
  unfold val_main_v60 val_main_v50 val_main_v40 val_main_v30 val_main_v20
  pointwise
  unfold Data.embed
  rw [Fin.sum_univ_six]
  simp only [EReal.coe_add]
  refine congrArg₂ (· + ·) (congrArg₂ (· + ·) (congrArg₂ (· + ·) (congrArg₂ (· + ·) (congrArg₂ (· + ·) ?_ ?_) ?_) ?_) ?_) ?_
  · exact row_apply hF 0 Facts₀.slices_S4x2048x6_S4x2048x1_0_0_0 Facts₀.gather_S6x768_S4x2048x1_S4x2048x768_2_0_n_n_0_2_1768_wf b n d
  · exact row_apply hF 1 Facts₀.slices_S4x2048x6_S4x2048x1_0_0_1 Facts₀.gather_S257x768_S4x2048x1_S4x2048x768_2_0_n_n_0_2_1768_wf b n d
  · exact row_apply hF 2 Facts₀.slices_S4x2048x6_S4x2048x1_0_0_2 Facts₀.gather_S129x768_S4x2048x1_S4x2048x768_2_0_n_n_0_2_1768_wf b n d
  · exact row_apply hF 3 Facts₀.slices_S4x2048x6_S4x2048x1_0_0_3 Facts₀.gather_S129x768_S4x2048x1_S4x2048x768_2_0_n_n_0_2_1768_wf b n d
  · exact row_apply hF 4 Facts₀.slices_S4x2048x6_S4x2048x1_0_0_4 Facts₀.gather_S257x768_S4x2048x1_S4x2048x768_2_0_n_n_0_2_1768_wf b n d
  · exact row_apply hF 5 Facts₀.slices_S4x2048x6_S4x2048x1_0_0_5 Facts₀.gather_S65x768_S4x2048x1_S4x2048x768_2_0_n_n_0_2_1768_wf b n d

/-- The reference's hidden rows over the arrays. -/
abbrev refHidden (A : Arrays) : FVec Ideal S4x2048x768 .f32 :=
  val_main_v65 (F := Ideal) A.x (A.e 0) (A.e 1) (A.e 2) (A.e 3) (A.e 4) (A.e 5) A.W A.b

include hF in
theorem refHidden_apply (b : Fin 4) (n : Fin 2048) (d : Fin 768) :
    refHidden A (ix3 b n d) = ((D.hid (b, n) d : ℝ) : EReal) := by
  have hE := embedding_apply hF b n
  unfold refHidden val_main_v65 val_main_v64 val_main_v61 val_main_v63 val_main_v62 val_main_call0_v0 val_main_call0_cst
  generalize val_main_v60 (F := Ideal) A.x (A.e 0) (A.e 1) (A.e 2) (A.e 3) (A.e 4) (A.e 5) = y at hE ⊢
  pointwise
  simp only [hE, hF.W, hF.b]
  unfold Data.hid hidden
  rw [coe_max, EReal.coe_add, coe_sum]
  simp only [EReal.coe_mul, EReal.coe_zero]

include hF in
/-- A token's logits in field `f`. -/
theorem headLogits_apply (f : Fin 6) (wf : DotDims.WF S4x2048x768 (Mat 768 (vocab f)) (Cube (vocab f)) [2] [0] [0, 1] [1] [] [])
    (b : Fin 4) (n : Fin 2048) (v : Fin (vocab f)) :
    Host.dotGeneral (headDot (vocab f) wf) none (refHidden A) (A.h f) (ix3 b n v)
      = ((logits (D.H f) (D.hid (b, n)) v : ℝ) : EReal) := by
  rw [headDot_apply]
  unfold logits
  rw [coe_sum]
  exact Finset.sum_congr rfl fun d _ => by rw [refHidden_apply hF, hF.h, EReal.coe_mul]

include hF in
/-- Field `f`'s term of the loss. -/
theorem term_apply (f : Fin 6) (hr : (Cube (vocab f)).ReducesTo [2] S4x2048)
    (hb : S4x2048x1.BroadcastsInDim (Cube (vocab f)) ![0, 1, 2])
    (wf : GatherDims.WF (Cube (vocab f)) S4x2048x1x1 S4x2048x1 [] [2] [0, 1] [2] [0, 1] 3 ![1, 1, 1])
    (wd : DotDims.WF S4x2048x768 (Mat 768 (vocab f)) (Cube (vocab f)) [2] [0] [0, 1] [1] [] [])
    (hs : S4x2048x6.Slices ![0, 0, f.val] S4x2048x1) (i : S_.Idx) :
    refField hr hb wf (Host.dotGeneral (headDot (vocab f) wd) none (refHidden A) (A.h f))
        (fieldColumn f hs (val_main_v1 (F := Ideal) A.x)) i
      = ((fieldTerm (D.H f) D.hid fun n => D.t f n.1 n.2 : ℝ) : EReal) :=
  refField_apply hr hb wf (vocab_lt f) _ _ i (fun n => logits (D.H f) (D.hid n)) (fun n => D.t f n.1 n.2)
    (headLogits_apply hF f wd) fun b n => (fieldColumn_apply f hs _ b n).trans (targets_apply hF b n f)

include hF in
/-- The reference's result is the loss. -/
theorem reference_value (i : S_.Idx) :
    val_main_v169 (F := Ideal) A.x (A.e 0) (A.e 1) (A.e 2) (A.e 3) (A.e 4) (A.e 5)
      (A.h 0) (A.h 1) (A.h 2) (A.h 3) (A.h 4) (A.h 5) A.W A.b i = ((D.loss : ℝ) : EReal) := by
  unfold val_main_v169 val_main_v168 val_main_v162 val_main_v163 val_main_v164 val_main_v165 val_main_v166 val_main_v167 val_main_cst_34
  pointwise
  unfold Data.loss
  rw [Fin.sum_univ_six, Fin.sum_univ_six]
  simp only [EReal.coe_add]
  refine congrArg₂ (· + ·) (congrArg₂ (· + ·) (congrArg₂ (· + ·) (congrArg₂ (· + ·) (congrArg₂ (· + ·) ?_ ?_) ?_) ?_) ?_) ?_
  · exact term_apply hF 0 Facts₀.reducesTo_S4x2048x6_S4x2048_d2 Facts₀.bcast_S4x2048x1_S4x2048x6_0_1_2
      Facts₀.gather_S4x2048x6_S4x2048x1x1_S4x2048x1_n_2_01_01_2_3_111_wf
      Facts₀.dot_S4x2048x768_S768x6_S4x2048x6_2_0_01_1_n_n_wf Facts₀.slices_S4x2048x6_S4x2048x1_0_0_0 _
  · exact term_apply hF 1 Facts₀.reducesTo_S4x2048x257_S4x2048_d2 Facts₀.bcast_S4x2048x1_S4x2048x257_0_1_2
      Facts₀.gather_S4x2048x257_S4x2048x1x1_S4x2048x1_n_2_01_01_2_3_111_wf
      Facts₀.dot_S4x2048x768_S768x257_S4x2048x257_2_0_01_1_n_n_wf Facts₀.slices_S4x2048x6_S4x2048x1_0_0_1 _
  · exact term_apply hF 2 Facts₀.reducesTo_S4x2048x129_S4x2048_d2 Facts₀.bcast_S4x2048x1_S4x2048x129_0_1_2
      Facts₀.gather_S4x2048x129_S4x2048x1x1_S4x2048x1_n_2_01_01_2_3_111_wf
      Facts₀.dot_S4x2048x768_S768x129_S4x2048x129_2_0_01_1_n_n_wf Facts₀.slices_S4x2048x6_S4x2048x1_0_0_2 _
  · exact term_apply hF 3 Facts₀.reducesTo_S4x2048x129_S4x2048_d2 Facts₀.bcast_S4x2048x1_S4x2048x129_0_1_2
      Facts₀.gather_S4x2048x129_S4x2048x1x1_S4x2048x1_n_2_01_01_2_3_111_wf
      Facts₀.dot_S4x2048x768_S768x129_S4x2048x129_2_0_01_1_n_n_wf Facts₀.slices_S4x2048x6_S4x2048x1_0_0_3 _
  · exact term_apply hF 4 Facts₀.reducesTo_S4x2048x257_S4x2048_d2 Facts₀.bcast_S4x2048x1_S4x2048x257_0_1_2
      Facts₀.gather_S4x2048x257_S4x2048x1x1_S4x2048x1_n_2_01_01_2_3_111_wf
      Facts₀.dot_S4x2048x768_S768x257_S4x2048x257_2_0_01_1_n_n_wf Facts₀.slices_S4x2048x6_S4x2048x1_0_0_4 _
  · exact term_apply hF 5 Facts₀.reducesTo_S4x2048x65_S4x2048_d2 Facts₀.bcast_S4x2048x1_S4x2048x65_0_1_2
      Facts₀.gather_S4x2048x65_S4x2048x1x1_S4x2048x1_n_2_01_01_2_3_111_wf
      Facts₀.dot_S4x2048x768_S768x65_S4x2048x65_2_0_01_1_n_n_wf Facts₀.slices_S4x2048x6_S4x2048x1_0_0_5 _

end Proof

end
-- ==== Proof.Precondition.lean ====
/-
  The precondition read back: arrays on which it holds carry a problem's data.
-/
module

public import proofs.«01_k».proof.Proof.Data
public import proofs.«01_k».proof.Proof.Words
public import proofs.«01_k».proof.Pre_finite_in_range
public import proofs.«01_k».proof.Proof.Gen.Pre_finite_in_range
public import Idealize.ShloMosaic.Lib.ReduceAll
public import Idealize.ShloMosaic.Lib.Pointwise.IndexVar

@[expose] public section

noncomputable section

namespace Proof

open Idealize.ShloMosaic Cert.Pre_finite_in_range

theorem andi_at {s : Shape} (x y : IVec s 1) (i : s.Idx) : andi x y i = IntOp.andi (x i) (y i) := rfl

/-- A word between 0 and `N`, read signed, is the word of a number below `N`. -/
theorem word_of_range (N : ℕ) (w : BitVec 32) (h0 : (0#32).toInt ≤ w.toInt) (h1 : w.toInt < (BitVec.ofNat 32 N).toInt)
    (hN : N < 2 ^ 31) : ∃ k : Fin N, w = BitVec.ofNat 32 k.val := by
  have hz : (0#32).toInt = 0 := by decide
  have hn : (BitVec.ofNat 32 N).toInt = (N : ℤ) := by
    rw [BitVec.toInt_eq_toNat_of_lt] <;> rw [BitVec.toNat_ofNat, Nat.mod_eq_of_lt (by omega)]
    omega
  have hw : w.toInt = (w.toNat : ℤ) := by
    have hc := BitVec.toInt_eq_toNat_cond w
    have := w.isLt
    split at hc <;> omega
  refine ⟨⟨w.toNat, by omega⟩, ?_⟩
  simp

variable {s : Shape} {axes : List (Fin s.rank)}

/-- Words all between 0 and `N`. -/
theorem words_in_range (N : ℕ) (hN : N < 2 ^ 31) (y : IVec s 32) (hz hn : S_.BroadcastsInDim s ![])
    (hr : s.ReducesTo axes S_) (hu : 0 < S_.numel)
    (h : Host.reduce IntOp.andi (andi (cmpi .sge y (broadcastInDim s ![] hz (constantI S_ 32 0#32)))
      (cmpi .slt y (broadcastInDim s ![] hn (constantI S_ 32 (BitVec.ofNat 32 N))))) (constantI S_ 1 1#1) hr hu ix0 = 1#1)
    (i : s.Idx) : ∃ k : Fin N, y i = BitVec.ofNat 32 k.val := by
  have e := Host.reduce_andi_all _ _ _ _ _ h i
  rw [andi_at] at e
  obtain ⟨e0, e1⟩ := IntOp.andi_eq_one.1 e
  exact word_of_range N (y i) (IntOp.cmpi_sge.1 e0) (IntOp.cmpi_slt.1 e1) hN

theorem ofBits_inf : Ideal.ofBits FTy.f32 0x7F800000#32 = ⊤ := by simp [Ideal.ofBits, Ideal.ieee]

/-- An extended real whose magnitude is below infinity is a real. -/
theorem real_of_abs_lt (x : EReal) (h : Ideal.cmp .olt (max x (-x)) ⊤ = 1) : ∃ r : ℝ, x = (r : EReal) := by
  rw [Ideal.cmp_olt_eq_one, max_lt_iff] at h
  refine ⟨x.toReal, (EReal.coe_toReal h.1.ne ?_).symm⟩
  rintro rfl
  exact absurd h.2 (by simp)

/-- Floats all finite. -/
theorem floats_finite (y : FVec Ideal s .f32) (hb : S_.BroadcastsInDim s ![]) (hr : s.ReducesTo axes S_) (hu : 0 < S_.numel)
    (h : Host.reduce IntOp.andi (cmpf .olt (Host.absf y) (broadcastInDim s ![] hb (constant S_ .f32 0x7F800000#32)))
      (constantI S_ 1 1#1) hr hu ix0 = 1#1) (i : s.Idx) : ∃ r : ℝ, y i = (r : EReal) := by
  have e := Host.reduce_andi_all _ _ _ _ _ h i
  refine real_of_abs_lt (y i) ?_
  rw [← ofBits_inf]
  exact e

/-- One field's column of the targets. -/
theorem target_column (x : IVec S4x2049x6 32) (f : Fin 6) (hs : S4x2049x6.Slices ![0, 1, f.val] S4x2048x1)
    (hc : S4x2048x1.ShapeCasts S4x2048) (b : Fin 4) (n : Fin 2048) :
    shapeCast S4x2048 (extractStridedSlice S4x2048x1 ![0, 1, f.val] x hs) hc (ix2 b n) = x (ix3 b (Fin.succ n) f) := by
  pointwise
  exact congrArg (fun z => x (ix3 b z f)) (Fin.ext (Nat.add_comm _ _))

/-- The first six rows of a table. -/
theorem first_rows {N : ℕ} (e : FVec Ideal (Mat N 768) .f32) (hN : 6 ≤ N) (hs : (Mat N 768).Slices ![0, 0] (Mat 6 768))
    (a : Fin 6) (d : Fin 768) :
    extractStridedSlice (Mat 6 768) ![0, 0] e hs (ix2 a d) = e (ix2 (Fin.castLE hN a) d) := by
  pointwise
  rfl

/-- Arrays on which the precondition holds carry a problem's data. -/
theorem fits_of_pre (A : Arrays) (q : IVec S4x2049 1)
    (h : fn (F := Ideal) A.x q (A.e 0) (A.e 1) (A.e 2) (A.e 3) (A.e 4) (A.e 5)
      (A.h 0) (A.h 1) (A.h 2) (A.h 3) (A.h 4) (A.h 5) A.W A.b = fun _ => 1#1) : ∃ D, A.Fits D := by
  have h := congrFun h ix0
  simp only [fn, fn_part1, fn_part2, fn_part3, fn_part4, fn_part5, fn_part6, fn_part7, andi_at, IntOp.andi_eq_one] at h
  obtain ⟨⟨⟨⟨⟨⟨⟨⟨⟨⟨⟨⟨⟨⟨⟨⟨⟨⟨⟨⟨hx, t0⟩, t1⟩, t2⟩, t3⟩, t4⟩, t5⟩, e0⟩, e1⟩, e2⟩, e3⟩, e4⟩, e5⟩, w0⟩, w1⟩, w2⟩, w3⟩, w4⟩, w5⟩, hW⟩, hb⟩ := h
  have X : ∀ b n f, ∃ k : Fin 6, A.x (ix3 b (Fin.castSucc n) f) = BitVec.ofNat 32 k.val := fun b n f => by
    have := words_in_range 6 (by norm_num) _ _ _ _ _ hx (ix3 b n f)
    pointwise at this
    exact this
  have T : ∀ f b n, ∃ k : Fin (vocab f), A.x (ix3 b (Fin.succ n) f) = BitVec.ofNat 32 k.val := fun f b n =>
    match f with
    | 0 => (words_in_range 6 (by norm_num) _ _ _ _ _ t0 (ix2 b n)).imp fun _ hk => (target_column A.x 0 _ _ b n).symm.trans hk
    | 1 => (words_in_range 257 (by norm_num) _ _ _ _ _ t1 (ix2 b n)).imp fun _ hk => (target_column A.x 1 _ _ b n).symm.trans hk
    | 2 => (words_in_range 129 (by norm_num) _ _ _ _ _ t2 (ix2 b n)).imp fun _ hk => (target_column A.x 2 _ _ b n).symm.trans hk
    | 3 => (words_in_range 129 (by norm_num) _ _ _ _ _ t3 (ix2 b n)).imp fun _ hk => (target_column A.x 3 _ _ b n).symm.trans hk
    | 4 => (words_in_range 257 (by norm_num) _ _ _ _ _ t4 (ix2 b n)).imp fun _ hk => (target_column A.x 4 _ _ b n).symm.trans hk
    | 5 => (words_in_range 65 (by norm_num) _ _ _ _ _ t5 (ix2 b n)).imp fun _ hk => (target_column A.x 5 _ _ b n).symm.trans hk
  have E : ∀ f a d, ∃ r : ℝ, A.e f (ix2 (Fin.castLE (six_le_vocab f) a) d) = (r : EReal) := fun f a d =>
    match f with
    | 0 => floats_finite _ _ _ _ e0 (ix2 a d)
    | 1 => (floats_finite _ _ _ _ e1 (ix2 a d)).imp fun _ hr => (first_rows (A.e 1) (six_le_vocab 1) _ a d).symm.trans hr
    | 2 => (floats_finite _ _ _ _ e2 (ix2 a d)).imp fun _ hr => (first_rows (A.e 2) (six_le_vocab 2) _ a d).symm.trans hr
    | 3 => (floats_finite _ _ _ _ e3 (ix2 a d)).imp fun _ hr => (first_rows (A.e 3) (six_le_vocab 3) _ a d).symm.trans hr
    | 4 => (floats_finite _ _ _ _ e4 (ix2 a d)).imp fun _ hr => (first_rows (A.e 4) (six_le_vocab 4) _ a d).symm.trans hr
    | 5 => (floats_finite _ _ _ _ e5 (ix2 a d)).imp fun _ hr => (first_rows (A.e 5) (six_le_vocab 5) _ a d).symm.trans hr
  have H : ∀ f d v, ∃ r : ℝ, A.h f (ix2 d v) = (r : EReal) := fun f d v =>
    match f, v with
    | 0, v => floats_finite _ _ _ _ w0 (ix2 d v)
    | 1, v => floats_finite _ _ _ _ w1 (ix2 d v)
    | 2, v => floats_finite _ _ _ _ w2 (ix2 d v)
    | 3, v => floats_finite _ _ _ _ w3 (ix2 d v)
    | 4, v => floats_finite _ _ _ _ w4 (ix2 d v)
    | 5, v => floats_finite _ _ _ _ w5 (ix2 d v)
  have W : ∀ a d, ∃ r : ℝ, A.W (ix2 a d) = (r : EReal) := fun a d => floats_finite _ _ _ _ hW (ix2 a d)
  have B : ∀ d, ∃ r : ℝ, A.b (ix1 d) = (r : EReal) := fun d => floats_finite _ _ _ _ hb (ix1 d)
  choose x hx using X
  choose t ht using T
  choose e he using E
  choose w hw using H
  choose W hW using W
  choose b hb using B
  exact ⟨⟨x, t, e, w, W, b⟩, ⟨hx, fun b n f => ht f b n, he, hw, hW, hb⟩⟩

end Proof

end
-- ==== Proof.lean ====
/-
  The five claims: both programs of the kernel and the reference run and leave their arguments alone, the idealized
  kernel is the kernel, and on inputs in range the kernel and the reference give the same loss.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite_in_range
public import proofs.«01_k».proof.Proof.Gen.KernelIdeal.Run
public import proofs.«01_k».proof.Proof.Gen.KernelIdeal.Read
public import proofs.«01_k».proof.Proof.Gen.ReferenceIdeal.Run
public import proofs.«01_k».proof.Proof.Gen.ReferenceIdeal.Read
public import proofs.«01_k».proof.Proof.KernelValue
public import proofs.«01_k».proof.Proof.RefValue
public import proofs.«01_k».proof.Proof.Precondition
public import Idealize.ShloMosaic.Adequacy
public import Idealize.ShloMosaic.Init

@[expose] public section

noncomputable section

namespace Cert.Proof

open Idealize.ShloMosaic Idealize.SL.Sem Idealize.ShloMosaic.TcCoe

/-- The reference runs, and leaves its arguments and the counters alone. -/
theorem reference_frame : Cert.quiescent_ReferenceIdeal := by
  intro m ρ _
  exact (θ_run Cert.ReferenceIdeal.defs _ _).mono (fun r h => ⟨fun c => (h c).2, funext fun sm => nomatch sm⟩)
    (Cert.ReferenceIdeal.Value.run m ρ)

section Values

open Cert.KernelIdeal

variable (m : (ℓ : Loc nD τ sig) → Buf (Elt Ideal) ℓ)

/-- The loss of the data that a device's arrays carry. -/
def lossOf (h : Cert.Pre_KernelIdeal_finite_in_range m) (c : Dev nD) : ℝ :=
  (Classical.choose (_root_.Proof.fits_of_pre (_root_.Proof.arrays m c) (m ((c : Thread nD τ).loc main_arg1)) (h c))).loss

theorem fits (h : Cert.Pre_KernelIdeal_finite_in_range m) (c : Dev nD) :
    ∃ D, (_root_.Proof.arrays m c).Fits D ∧ lossOf m h c = D.loss :=
  ⟨_, Classical.choose_spec (_root_.Proof.fits_of_pre (_root_.Proof.arrays m c) (m ((c : Thread nD τ).loc main_arg1)) (h c)), rfl⟩

/-- The kernel's result is the loss. -/
theorem kernel_result (h : Cert.Pre_KernelIdeal_finite_in_range m) (c : Dev nD) :
    Read.val_main_v24 (F := Ideal) (Value.reg_main_v15 m c) = fun _ => ((lossOf m h c : ℝ) : EReal) := by
  obtain ⟨D, hF, hD⟩ := fits m h c
  funext i
  rw [hD, ← _root_.Proof.kernel_value hF i, ← _root_.Proof.result_eq m c]
  rfl

/-- The reference's result on the same arrays is the loss. -/
theorem reference_result (h : Cert.Pre_KernelIdeal_finite_in_range m) (c : Dev nD) :
    Cert.ReferenceIdeal.Read.val_main_v169 (F := Ideal) (m ((c : Thread nD τ).loc main_arg0))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13))
      (m ((c : Thread nD τ).loc main_arg14)) (m ((c : Thread nD τ).loc main_arg15))
      = fun _ => ((lossOf m h c : ℝ) : EReal) := by
  obtain ⟨D, hF, hD⟩ := fits m h c
  funext i
  rw [hD]
  exact _root_.Proof.reference_value hF i

end Values

/-- On inputs in range the kernel and the reference give the same loss. -/
theorem same_loss : Cert.algebraic_KernelIdeal_ReferenceIdeal_pre_finite_in_range := by
  intro m ρ m' ρ' hpre hag
  refine ⟨fun c => Cert.KernelIdeal.Read.val_main_v24 (F := Ideal) (Cert.KernelIdeal.Value.reg_main_v15 m c),
    (θ_run _ _ _).mono (fun _ h c => h c) (Cert.KernelIdeal.Value.run m ρ),
    (θ_run _ _ _).mono (fun _ h c => ⟨(h c).1.trans ?_, (h c).2⟩) (Cert.ReferenceIdeal.Value.run m' ρ')⟩
  refine (Cert.ReferenceIdeal.Read.val_main_v169_eq _).trans ?_
  obtain ⟨a0, _, a2, a3, a4, a5, a6, a7, a8, a9, a10, a11, a12, a13, a14, a15⟩ := hag c
  refine .trans ?_ ((reference_result m hpre c).trans (kernel_result m hpre c).symm)
  show Cert.ReferenceIdeal.Read.val_main_v169 (F := Ideal) (m' ((c : Thread Cert.ReferenceIdeal.nD Cert.ReferenceIdeal.τ).loc Cert.ReferenceIdeal.main_arg0))
    (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6))
    (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11))
    (m' ((c : Thread Cert.ReferenceIdeal.nD Cert.ReferenceIdeal.τ).loc Cert.ReferenceIdeal.main_arg12)) (m' ((c : Thread Cert.ReferenceIdeal.nD Cert.ReferenceIdeal.τ).loc Cert.ReferenceIdeal.main_arg13)) (m' ((c : Thread Cert.ReferenceIdeal.nD Cert.ReferenceIdeal.τ).loc Cert.ReferenceIdeal.main_arg14)) (m' ((c : Thread Cert.ReferenceIdeal.nD Cert.ReferenceIdeal.τ).loc Cert.ReferenceIdeal.main_arg15)) = _
  rw [a0, a2, a3, a4, a5, a6, a7, a8, a9, a10, a11, a12, a13, a14, a15]

theorem claim : Cert.Claim :=
  ⟨Cert.Kernel.Gen.facts, Cert.KernelIdeal.Gen.facts, Cert.ReferenceIdeal.Gen.facts, Cert.Pre_finite_in_range.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial, same_loss⟩

end Cert.Proof

end
